-- ==== Defs.lean ====
def Pre_Kernel [hPre_labels_in_range : Cert.Pre_labels_in_range.Facts] (m : (ℓ : Loc Cert.Kernel.nD Cert.Kernel.τ Cert.Kernel.sig) → Buf (Elt Bits) ℓ) : Prop :=
  ∀ c : Dev Cert.Kernel.nD,
    (Cert.Pre_labels_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_labels_sorted [hPre_labels_sorted : Cert.Pre_labels_sorted.Facts] (m : (ℓ : Loc Cert.KernelIdeal.nD Cert.KernelIdeal.τ Cert.KernelIdeal.sig) → Buf (Elt Ideal) ℓ) : Prop :=
  ∀ c : Dev Cert.KernelIdeal.nD,
    (Cert.Pre_labels_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_sorted [hPre_labels_sorted : Cert.Pre_labels_sorted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_labels_in_range : Cert.Pre_labels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_labels_sorted [hKernelIdeal : Cert.KernelIdeal.Facts] [hPre_labels_sorted : Cert.Pre_labels_sorted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_sorted m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_labels_sorted [hReferenceIdeal : Cert.ReferenceIdeal.Facts] [hPre_labels_sorted : Cert.Pre_labels_sorted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_sorted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_labels_sorted [hKernelIdeal : Cert.KernelIdeal.Facts] [hReferenceIdeal : Cert.ReferenceIdeal.Facts] [hPre_labels_sorted : Cert.Pre_labels_sorted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_sorted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_labels_in_range : Cert.Pre_labels_in_range.Facts) (hPre_labels_sorted : Cert.Pre_labels_sorted.Facts),
    quiescent_Kernel (hKernel := hKernel) (hPre_labels_in_range := hPre_labels_in_range)
    ∧ quiescent_KernelIdeal (hKernelIdeal := hKernelIdeal) (hPre_labels_in_range := hPre_labels_in_range)
    ∧ quiescent_KernelIdeal_pre_labels_sorted (hKernelIdeal := hKernelIdeal) (hPre_labels_sorted := hPre_labels_sorted)
    ∧ quiescent_ReferenceIdeal (hReferenceIdeal := hReferenceIdeal)
    ∧ quiescent_ReferenceIdeal_pre_labels_sorted (hReferenceIdeal := hReferenceIdeal) (hPre_labels_sorted := hPre_labels_sorted)
    ∧ preserves_Kernel_KernelIdeal
    ∧ algebraic_KernelIdeal_ReferenceIdeal_pre_labels_sorted (hKernelIdeal := hKernelIdeal) (hReferenceIdeal := hReferenceIdeal) (hPre_labels_sorted := hPre_labels_sorted)
-- ==== Pre_labels_in_range.lean ====
abbrev S8x128x50000 : Shape := ⟨3, ![8, 128, 50000]⟩
abbrev S8x50000 : Shape := ⟨2, ![8, 50000]⟩
abbrev S_ : Shape := ⟨0, ![]⟩

class Facts : Prop where
  bcast_S_S8x50000 : S_.BroadcastsInDim S8x50000 (![] : Fin 0 → Fin S8x50000.rank)

variable [Facts]

def fn {F : FTy → Type} [FloatOps F] (main_arg0 : FVec F S8x128x50000 .f32) (main_arg1 : IVec S8x50000 32) (main_arg2 : IVec S_ 32) : IVec S8x50000 1 :=
  let main_c : IVec S_ 32 := constantI S_ 32 0#32
  let main_v0 : IVec S8x50000 32 := broadcastInDim S8x50000 ![] bcast_S_S8x50000 main_c
  let main_v1 : IVec S8x50000 1 := cmpi .sge main_arg1 main_v0
  let main_c_0 : IVec S_ 32 := constantI S_ 32 64#32
  let main_v2 : IVec S8x50000 32 := broadcastInDim S8x50000 ![] bcast_S_S8x50000 main_c_0
  let main_v3 : IVec S8x50000 1 := cmpi .slt main_arg1 main_v2
  let main_v4 : IVec S8x50000 1 := andi main_v1 main_v3
  main_v4
-- ==== Pre_labels_sorted.lean ====
abbrev S8x128x50000 : Shape := ⟨3, ![8, 128, 50000]⟩
abbrev S8x50000 : Shape := ⟨2, ![8, 50000]⟩
abbrev S_ : Shape := ⟨0, ![]⟩
abbrev S8x49999 : Shape := ⟨2, ![8, 49999]⟩

class Facts : Prop where
  slices_S8x50000_S8x49999_0_0 : S8x50000.Slices ![0, 0] S8x49999
  slices_S8x50000_S8x49999_0_1 : S8x50000.Slices ![0, 1] S8x49999
  bcast_S_S8x49999 : S_.BroadcastsInDim S8x49999 (![] : Fin 0 → Fin S8x49999.rank)

variable [Facts]

def fn {F : FTy → Type} [FloatOps F] (main_arg0 : FVec F S8x128x50000 .f32) (main_arg1 : IVec S8x50000 32) (main_arg2 : IVec S_ 32) : IVec S8x49999 1 :=
  let main_v0 : IVec S8x49999 32 := (extractStridedSlice S8x49999 ![0, 0] · slices_S8x50000_S8x49999_0_0) main_arg1
  let main_v1 : IVec S8x49999 32 := (extractStridedSlice S8x49999 ![0, 1] · slices_S8x50000_S8x49999_0_1) main_arg1
  let main_v2 : IVec S8x49999 1 := cmpi .sle main_v0 main_v1
  let main_v3 : IVec S8x49999 32 := (extractStridedSlice S8x49999 ![0, 0] · slices_S8x50000_S8x49999_0_0) main_arg1
  let main_c : IVec S_ 32 := constantI S_ 32 0#32
  let main_v4 : IVec S8x49999 32 := broadcastInDim S8x49999 ![] bcast_S_S8x49999 main_c
  let main_v5 : IVec S8x49999 1 := cmpi .sge main_v3 main_v4
  let main_v6 : IVec S8x49999 1 := andi main_v2 main_v5
  let main_v7 : IVec S8x49999 32 := (extractStridedSlice S8x49999 ![0, 1] · slices_S8x50000_S8x49999_0_1) main_arg1
  let main_c_0 : IVec S_ 32 := constantI S_ 32 64#32
  let main_v8 : IVec S8x49999 32 := broadcastInDim S8x49999 ![] bcast_S_S8x49999 main_c_0
  let main_v9 : IVec S8x49999 1 := cmpi .slt main_v7 main_v8
  let main_v10 : IVec S8x49999 1 := andi main_v6 main_v9
  main_v10
-- ==== Kernel.lean ====
abbrev S8x128x50000 : Shape := ⟨3, ![8, 128, 50000]⟩
abbrev S8x50000 : Shape := ⟨2, ![8, 50000]⟩
abbrev S_ : Shape := ⟨0, ![]⟩
abbrev S8x1x50000 : Shape := ⟨3, ![8, 1, 50000]⟩
abbrev S512x128 : Shape := ⟨2, ![512, 128]⟩
abbrev S8x50000x128 : Shape := ⟨3, ![8, 50000, 128]⟩
abbrev S1x1x6272 : Shape := ⟨3, ![1, 1, 6272]⟩
abbrev S1x128x6272 : Shape := ⟨3, ![1, 128, 6272]⟩
abbrev S64x128 : Shape := ⟨2, ![64, 128]⟩
abbrev S1x6272x128 : Shape := ⟨3, ![1, 6272, 128]⟩
abbrev S6272x1 : Shape := ⟨2, ![6272, 1]⟩
abbrev S128x6272 : Shape := ⟨2, ![128, 6272]⟩
abbrev S6272x128 : Shape := ⟨2, ![6272, 128]⟩
abbrev S1x6272 : Shape := ⟨2, ![1, 6272]⟩
abbrev S1 : Shape := ⟨1, ![1]⟩
abbrev S1x1x1 : Shape := ⟨3, ![1, 1, 1]⟩
abbrev S98x64 : Shape := ⟨2, ![98, 64]⟩
abbrev S98 : Shape := ⟨1, ![98]⟩
abbrev S98x1 : Shape := ⟨2, ![98, 1]⟩
abbrev S98x64x128 : Shape := ⟨3, ![98, 64, 128]⟩
abbrev S98x128 : Shape := ⟨2, ![98, 128]⟩
abbrev S1x1 : Shape := ⟨2, ![1, 1]⟩
abbrev S1x98x1 : Shape := ⟨3, ![1, 98, 1]⟩
abbrev S64x1 : Shape := ⟨2, ![64, 1]⟩
abbrev S1x64x128 : Shape := ⟨3, ![1, 64, 128]⟩
abbrev S128 : Shape := ⟨1, ![128]⟩
abbrev S1x128 : Shape := ⟨2, ![1, 128]⟩
abbrev S400000x128 : Shape := ⟨2, ![400000, 128]⟩

abbrev nBuf : Space → Nat
  | .hbm => 7
  | .vmem => 9
  | .smem => 0
  | _ => 0

abbrev bufTy : (tb : Table) → Fin (tcTables nBuf tb) → BufTy
  | .hbm, ⟨0, _⟩ => ⟨S8x128x50000, .f32⟩
  | .hbm, ⟨1, _⟩ => ⟨S8x50000, .i32⟩
  | .hbm, ⟨2, _⟩ => ⟨S_, .i32⟩
  | .hbm, ⟨3, _⟩ => ⟨S8x1x50000, .i32⟩
  | .hbm, ⟨4, _⟩ => ⟨S512x128, .f32⟩
  | .hbm, ⟨5, _⟩ => ⟨S8x50000x128, .f32⟩
  | .hbm, ⟨6, _⟩ => ⟨S400000x128, .f32⟩
  | .local _ .vmem, ⟨0, _⟩ => ⟨S1x1x6272, .i32⟩
  | .local _ .vmem, ⟨1, _⟩ => ⟨S1x1x6272, .i32⟩
  | .local _ .vmem, ⟨2, _⟩ => ⟨S1x128x6272, .f32⟩
  | .local _ .vmem, ⟨3, _⟩ => ⟨S1x128x6272, .f32⟩
  | .local _ .vmem, ⟨4, _⟩ => ⟨S64x128, .f32⟩
  | .local _ .vmem, ⟨5, _⟩ => ⟨S64x128, .f32⟩
  | .local _ .vmem, ⟨6, _⟩ => ⟨S1x6272x128, .f32⟩
  | .local _ .vmem, ⟨7, _⟩ => ⟨S1x6272x128, .f32⟩
  | .local _ .vmem, ⟨8, _⟩ => ⟨S6272x1, .i32⟩
  | _, _ => ⟨S8x128x50000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

@[reducible] def k0_t1_loop (v21 : BitVec 32) (v38 : BitVec 32) : Scf.Loop 32 :=
  let c0_i32_27 : BitVec 32 := 0#32
  let v70 : BitVec 32 := Scalar.subi v21 v38
  let c0_i32_20 : BitVec 32 := 0#32
  let v72 : BitVec 1 := Scalar.cmpi .sgt v70 c0_i32_20
  let v73 : BitVec 32 := Scalar.extui v72
  let c0_i32_21 : BitVec 32 := 0#32
  let v74 : BitVec 1 := Scalar.cmpi .slt v70 c0_i32_21
  let v75 : BitVec 32 := Scalar.extui v74
  let v76 : BitVec 32 := Scalar.subi v73 v75
  let c2_i32 : BitVec 32 := 2#32
  let c0_i32_22 : BitVec 32 := 0#32
  let v77 : BitVec 1 := Scalar.cmpi .sgt c2_i32 c0_i32_22
  let v78 : BitVec 32 := Scalar.extui v77
  let c0_i32_23 : BitVec 32 := 0#32
  let v79 : BitVec 1 := Scalar.cmpi .slt c2_i32 c0_i32_23
  let v80 : BitVec 32 := Scalar.extui v79
  let v81 : BitVec 32 := Scalar.subi v78 v80
  let v82 : BitVec 1 := Scalar.cmpi .ne v76 v81
  let v83 : BitVec 32 := Scalar.remsi v70 c2_i32
  let c0_i32_24 : BitVec 32 := 0#32
  let v84 : BitVec 1 := Scalar.cmpi .ne v83 c0_i32_24
  let v85 : BitVec 1 := Scalar.andi v82 v84
  let v71 : BitVec 32 := Scalar.divsi v70 c2_i32
  let c1_i32_25 : BitVec 32 := 1#32
  let v86 : BitVec 32 := Scalar.subi v71 c1_i32_25
  let v87 : BitVec 32 := Scalar.select v85 v86 v71
  let c1_i32_26 : BitVec 32 := 1#32
  let v88 : BitVec 32 := Scalar.addi v87 c1_i32_26
  let v89 : BitVec 32 := Scalar.subi v88 c0_i32_27
  let c1_i32_28 : BitVec 32 := 1#32
  let v91 : BitVec 32 := Scalar.divsi v89 c1_i32_28
  let v92 : BitVec 32 := Scalar.muli v91 c1_i32_28
  let v93 : BitVec 32 := Scalar.addi c0_i32_27 v92
  let c1_i32_29 : BitVec 32 := 1#32
  ⟨c0_i32_27, v93, c1_i32_29⟩

def k0_off1 (arg8 : BitVec 32) : Fin 2 → Nat :=
  let c64_i32 : BitVec 32 := 64#32
  let v130 : BitVec 32 := Scalar.muli arg8 c64_i32
  let v131 : Index := Scalar.indexCast v130
  let c0_39 : Index := 0#32
  ![v131.toNat, 0]

def k0_off2 (arg8 : BitVec 32) : Fin 3 → Nat :=
  let c0_41 : Index := 0#32
  let c64_i32_40 : BitVec 32 := 64#32
  let v135 : BitVec 32 := Scalar.muli arg8 c64_i32_40
  let v136 : Index := Scalar.indexCast v135
  let c0_42 : Index := 0#32
  ![0, v136.toNat, 0]

def k0_chk2 (arg8 : BitVec 32) : Prop :=
  (∀ a, (k0_off1 arg8) a + S64x1.size a ≤ S6272x1.size a) ∧
  (∀ a, (k0_off2 arg8) a + S1x64x128.size a ≤ S1x6272x128.size a)
theorem k0_off1_inb : ∀ (arg8 : BitVec 32) (k0_hw2 : k0_chk2 arg8), ∀ a, (k0_off1 arg8) a + S64x1.size a ≤ S6272x1.size a := fun arg8 k0_hw2 => k0_hw2.1
theorem k0_off2_inb : ∀ (arg8 : BitVec 32) (k0_hw2 : k0_chk2 arg8), ∀ a, (k0_off2 arg8) a + S1x64x128.size a ≤ S1x6272x128.size a := fun arg8 k0_hw2 => k0_hw2.2

def k0_off3 (arg9 : BitVec 32) : Fin 2 → Nat :=
  let c64_i32_45 : BitVec 32 := 64#32
  let v145 : BitVec 32 := Scalar.muli arg9 c64_i32_45
  let v146 : Index := Scalar.indexCast v145
  let c0_46 : Index := 0#32
  ![v146.toNat, 0]

def k0_off4 (arg9 : BitVec 32) : Fin 3 → Nat :=
  let c0_48 : Index := 0#32
  let c64_i32_47 : BitVec 32 := 64#32
  let v150 : BitVec 32 := Scalar.muli arg9 c64_i32_47
  let v151 : Index := Scalar.indexCast v150
  let c0_49 : Index := 0#32
  ![0, v151.toNat, 0]

def k0_chk3 (arg9 : BitVec 32) : Prop :=
  (∀ a, (k0_off3 arg9) a + S64x1.size a ≤ S6272x1.size a) ∧
  (∀ a, (k0_off4 arg9) a + S1x64x128.size a ≤ S1x6272x128.size a)
theorem k0_off3_inb : ∀ (arg9 : BitVec 32) (k0_hw3 : k0_chk3 arg9), ∀ a, (k0_off3 arg9) a + S64x1.size a ≤ S6272x1.size a := fun arg9 k0_hw3 => k0_hw3.1
theorem k0_off4_inb : ∀ (arg9 : BitVec 32) (k0_hw3 : k0_chk3 arg9), ∀ a, (k0_off4 arg9) a + S1x64x128.size a ≤ S1x6272x128.size a := fun arg9 k0_hw3 => k0_hw3.2

def k0_off5 (v21 : BitVec 32) (v38 : BitVec 32) (k0_t1 : Fin (k0_t1_loop v21 v38).trips) : Fin 2 → Nat :=
  let c2_i32_31 : BitVec 32 := 2#32
  let c0_i32_27 : BitVec 32 := 0#32
  let c1_i32_29 : BitVec 32 := 1#32
  let arg7 : BitVec 32 := Scf.iv c0_i32_27 c1_i32_29 k0_t1
  let v96 : BitVec 32 := Scalar.muli c2_i32_31 arg7
  let v97 : BitVec 32 := Scalar.addi v38 v96
  let v173 : Index := Scalar.indexCast v97
  let c0_54 : Index := 0#32
  ![v173.toNat, 0]
def k0_off6 (arg10 : BitVec 32) : Fin 2 → Nat :=
  let c64_i32_59 : BitVec 32 := 64#32
  let v184 : BitVec 32 := Scalar.muli arg10 c64_i32_59
  let v185 : Index := Scalar.indexCast v184
  let c0_60 : Index := 0#32
  ![v185.toNat, 0]
def k0_cond2 (v21 : BitVec 32) (v38 : BitVec 32) (k0_t1 : Fin (k0_t1_loop v21 v38).trips) : BitVec 1 :=
  let c2_i32_31 : BitVec 32 := 2#32
  let c0_i32_27 : BitVec 32 := 0#32
  let c1_i32_29 : BitVec 32 := 1#32
  let arg7 : BitVec 32 := Scf.iv c0_i32_27 c1_i32_29 k0_t1
  let v96 : BitVec 32 := Scalar.muli c2_i32_31 arg7
  let v97 : BitVec 32 := Scalar.addi v38 v96
  let c1_i32_56 : BitVec 32 := 1#32
  let v179 : BitVec 32 := Scalar.addi v97 c1_i32_56
  let v180 : BitVec 1 := Scalar.cmpi .sle v179 v21
  let v181 : BitVec 32 := Scalar.extui v180
  let c0_i32_57 : BitVec 32 := 0#32
  let v182 : BitVec 1 := Scalar.cmpi .ne v181 c0_i32_57
  v182

def k0_off7 (arg10 : BitVec 32) : Fin 3 → Nat :=
  let c0_62 : Index := 0#32
  let c64_i32_61 : BitVec 32 := 64#32
  let v189 : BitVec 32 := Scalar.muli arg10 c64_i32_61
  let v190 : Index := Scalar.indexCast v189
  let c0_63 : Index := 0#32
  ![0, v190.toNat, 0]

def k0_chk4 (v21 : BitVec 32) (v38 : BitVec 32) (k0_t1 : Fin (k0_t1_loop v21 v38).trips) (arg10 : BitVec 32) : Prop :=
  (∀ (k0_h2 : k0_cond2 v21 v38 k0_t1 = 1#1), ∀ a, (k0_off6 arg10) a + S64x1.size a ≤ S6272x1.size a) ∧
  (∀ (k0_h2 : k0_cond2 v21 v38 k0_t1 = 1#1), ∀ a, (k0_off7 arg10) a + S1x64x128.size a ≤ S1x6272x128.size a)
theorem k0_off6_inb : ∀ (v21 : BitVec 32) (v38 : BitVec 32) (k0_t1 : Fin (k0_t1_loop v21 v38).trips) (arg10 : BitVec 32) (k0_hw4 : k0_chk4 v21 v38 k0_t1 arg10), ∀ (k0_h2 : k0_cond2 v21 v38 k0_t1 = 1#1), ∀ a, (k0_off6 arg10) a + S64x1.size a ≤ S6272x1.size a := fun v21 v38 k0_t1 arg10 k0_hw4 k0_h2 => k0_hw4.1 k0_h2
theorem k0_off7_inb : ∀ (v21 : BitVec 32) (v38 : BitVec 32) (k0_t1 : Fin (k0_t1_loop v21 v38).trips) (arg10 : BitVec 32) (k0_hw4 : k0_chk4 v21 v38 k0_t1 arg10), ∀ (k0_h2 : k0_cond2 v21 v38 k0_t1 = 1#1), ∀ a, (k0_off7 arg10) a + S1x64x128.size a ≤ S1x6272x128.size a := fun v21 v38 k0_t1 arg10 k0_hw4 k0_h2 => k0_hw4.2 k0_h2

def k0_off8 (arg11 : BitVec 32) : Fin 2 → Nat :=
  let c64_i32_66 : BitVec 32 := 64#32
  let v199 : BitVec 32 := Scalar.muli arg11 c64_i32_66
  let v200 : Index := Scalar.indexCast v199
  let c0_67 : Index := 0#32
  ![v200.toNat, 0]

def k0_off9 (arg11 : BitVec 32) : Fin 3 → Nat :=
  let c0_69 : Index := 0#32
  let c64_i32_68 : BitVec 32 := 64#32
  let v204 : BitVec 32 := Scalar.muli arg11 c64_i32_68
  let v205 : Index := Scalar.indexCast v204
  let c0_70 : Index := 0#32
  ![0, v205.toNat, 0]

def k0_chk5 (v21 : BitVec 32) (v38 : BitVec 32) (k0_t1 : Fin (k0_t1_loop v21 v38).trips) (arg11 : BitVec 32) : Prop :=
  (∀ (k0_h2 : k0_cond2 v21 v38 k0_t1 = 1#1), ∀ a, (k0_off8 arg11) a + S64x1.size a ≤ S6272x1.size a) ∧
  (∀ (k0_h2 : k0_cond2 v21 v38 k0_t1 = 1#1), ∀ a, (k0_off9 arg11) a + S1x64x128.size a ≤ S1x6272x128.size a)
theorem k0_off8_inb : ∀ (v21 : BitVec 32) (v38 : BitVec 32) (k0_t1 : Fin (k0_t1_loop v21 v38).trips) (arg11 : BitVec 32) (k0_hw5 : k0_chk5 v21 v38 k0_t1 arg11), ∀ (k0_h2 : k0_cond2 v21 v38 k0_t1 = 1#1), ∀ a, (k0_off8 arg11) a + S64x1.size a ≤ S6272x1.size a := fun v21 v38 k0_t1 arg11 k0_hw5 k0_h2 => k0_hw5.1 k0_h2
theorem k0_off9_inb : ∀ (v21 : BitVec 32) (v38 : BitVec 32) (k0_t1 : Fin (k0_t1_loop v21 v38).trips) (arg11 : BitVec 32) (k0_hw5 : k0_chk5 v21 v38 k0_t1 arg11), ∀ (k0_h2 : k0_cond2 v21 v38 k0_t1 = 1#1), ∀ a, (k0_off9 arg11) a + S1x64x128.size a ≤ S1x6272x128.size a := fun v21 v38 k0_t1 arg11 k0_hw5 k0_h2 => k0_hw5.2 k0_h2

def k0_off10 (v21 : BitVec 32) (v38 : BitVec 32) (k0_t1 : Fin (k0_t1_loop v21 v38).trips) : Fin 2 → Nat :=
  let c2_i32_31 : BitVec 32 := 2#32
  let c0_i32_27 : BitVec 32 := 0#32
  let c1_i32_29 : BitVec 32 := 1#32
  let arg7 : BitVec 32 := Scf.iv c0_i32_27 c1_i32_29 k0_t1
  let v96 : BitVec 32 := Scalar.muli c2_i32_31 arg7
  let v97 : BitVec 32 := Scalar.addi v38 v96
  let c1_i32_58 : BitVec 32 := 1#32
  let v183 : BitVec 32 := Scalar.addi v97 c1_i32_58
  let v227 : Index := Scalar.indexCast v183
  let c0_75 : Index := 0#32
  ![v227.toNat, 0]
@[reducible] def k0_t2_loop (v21 : BitVec 32) (v38 : BitVec 32) : Scf.Loop 32 :=
  let c0_i32_27 : BitVec 32 := 0#32
  let v70 : BitVec 32 := Scalar.subi v21 v38
  let c0_i32_20 : BitVec 32 := 0#32
  let v72 : BitVec 1 := Scalar.cmpi .sgt v70 c0_i32_20
  let v73 : BitVec 32 := Scalar.extui v72
  let c0_i32_21 : BitVec 32 := 0#32
  let v74 : BitVec 1 := Scalar.cmpi .slt v70 c0_i32_21
  let v75 : BitVec 32 := Scalar.extui v74
  let v76 : BitVec 32 := Scalar.subi v73 v75
  let c2_i32 : BitVec 32 := 2#32
  let c0_i32_22 : BitVec 32 := 0#32
  let v77 : BitVec 1 := Scalar.cmpi .sgt c2_i32 c0_i32_22
  let v78 : BitVec 32 := Scalar.extui v77
  let c0_i32_23 : BitVec 32 := 0#32
  let v79 : BitVec 1 := Scalar.cmpi .slt c2_i32 c0_i32_23
  let v80 : BitVec 32 := Scalar.extui v79
  let v81 : BitVec 32 := Scalar.subi v78 v80
  let v82 : BitVec 1 := Scalar.cmpi .ne v76 v81
  let v83 : BitVec 32 := Scalar.remsi v70 c2_i32
  let c0_i32_24 : BitVec 32 := 0#32
  let v84 : BitVec 1 := Scalar.cmpi .ne v83 c0_i32_24
  let v85 : BitVec 1 := Scalar.andi v82 v84
  let v71 : BitVec 32 := Scalar.divsi v70 c2_i32
  let c1_i32_25 : BitVec 32 := 1#32
  let v86 : BitVec 32 := Scalar.subi v71 c1_i32_25
  let v87 : BitVec 32 := Scalar.select v85 v86 v71
  let c1_i32_26 : BitVec 32 := 1#32
  let v88 : BitVec 32 := Scalar.addi v87 c1_i32_26
  let v89 : BitVec 32 := Scalar.subi v88 c0_i32_27
  let c1_i32_28 : BitVec 32 := 1#32
  let v91 : BitVec 32 := Scalar.divsi v89 c1_i32_28
  let v92 : BitVec 32 := Scalar.muli v91 c1_i32_28
  let v93 : BitVec 32 := Scalar.addi c0_i32_27 v92
  let v90 : BitVec 32 := Scalar.addi c0_i32_27 v89
  let c1_i32_30 : BitVec 32 := 1#32
  ⟨v93, v90, c1_i32_30⟩
def k0_off11 (arg8 : BitVec 32) : Fin 2 → Nat :=
  let c64_i32 : BitVec 32 := 64#32
  let v130 : BitVec 32 := Scalar.muli arg8 c64_i32
  let v131 : Index := Scalar.indexCast v130
  let c0_39 : Index := 0#32
  ![v131.toNat, 0]

def k0_off12 (arg8 : BitVec 32) : Fin 3 → Nat :=
  let c0_41 : Index := 0#32
  let c64_i32_40 : BitVec 32 := 64#32
  let v135 : BitVec 32 := Scalar.muli arg8 c64_i32_40
  let v136 : Index := Scalar.indexCast v135
  let c0_42 : Index := 0#32
  ![0, v136.toNat, 0]

def k0_chk6 (arg8 : BitVec 32) : Prop :=
  (∀ a, (k0_off11 arg8) a + S64x1.size a ≤ S6272x1.size a) ∧
  (∀ a, (k0_off12 arg8) a + S1x64x128.size a ≤ S1x6272x128.size a)
theorem k0_off11_inb : ∀ (arg8 : BitVec 32) (k0_hw6 : k0_chk6 arg8), ∀ a, (k0_off11 arg8) a + S64x1.size a ≤ S6272x1.size a := fun arg8 k0_hw6 => k0_hw6.1
theorem k0_off12_inb : ∀ (arg8 : BitVec 32) (k0_hw6 : k0_chk6 arg8), ∀ a, (k0_off12 arg8) a + S1x64x128.size a ≤ S1x6272x128.size a := fun arg8 k0_hw6 => k0_hw6.2

def k0_off13 (arg9 : BitVec 32) : Fin 2 → Nat :=
  let c64_i32_45 : BitVec 32 := 64#32
  let v145 : BitVec 32 := Scalar.muli arg9 c64_i32_45
  let v146 : Index := Scalar.indexCast v145
  let c0_46 : Index := 0#32
  ![v146.toNat, 0]

def k0_off14 (arg9 : BitVec 32) : Fin 3 → Nat :=
  let c0_48 : Index := 0#32
  let c64_i32_47 : BitVec 32 := 64#32
  let v150 : BitVec 32 := Scalar.muli arg9 c64_i32_47
  let v151 : Index := Scalar.indexCast v150
  let c0_49 : Index := 0#32
  ![0, v151.toNat, 0]

def k0_chk7 (arg9 : BitVec 32) : Prop :=
  (∀ a, (k0_off13 arg9) a + S64x1.size a ≤ S6272x1.size a) ∧
  (∀ a, (k0_off14 arg9) a + S1x64x128.size a ≤ S1x6272x128.size a)
theorem k0_off13_inb : ∀ (arg9 : BitVec 32) (k0_hw7 : k0_chk7 arg9), ∀ a, (k0_off13 arg9) a + S64x1.size a ≤ S6272x1.size a := fun arg9 k0_hw7 => k0_hw7.1
theorem k0_off14_inb : ∀ (arg9 : BitVec 32) (k0_hw7 : k0_chk7 arg9), ∀ a, (k0_off14 arg9) a + S1x64x128.size a ≤ S1x6272x128.size a := fun arg9 k0_hw7 => k0_hw7.2

def k0_off15 (v21 : BitVec 32) (v38 : BitVec 32) (k0_t2 : Fin (k0_t2_loop v21 v38).trips) : Fin 2 → Nat :=
  let c2_i32_31 : BitVec 32 := 2#32
  let c0_i32_27 : BitVec 32 := 0#32
  let v70 : BitVec 32 := Scalar.subi v21 v38
  let c0_i32_20 : BitVec 32 := 0#32
  let v72 : BitVec 1 := Scalar.cmpi .sgt v70 c0_i32_20
  let v73 : BitVec 32 := Scalar.extui v72
  let c0_i32_21 : BitVec 32 := 0#32
  let v74 : BitVec 1 := Scalar.cmpi .slt v70 c0_i32_21
  let v75 : BitVec 32 := Scalar.extui v74
  let v76 : BitVec 32 := Scalar.subi v73 v75
  let c2_i32 : BitVec 32 := 2#32
  let c0_i32_22 : BitVec 32 := 0#32
  let v77 : BitVec 1 := Scalar.cmpi .sgt c2_i32 c0_i32_22
  let v78 : BitVec 32 := Scalar.extui v77
  let c0_i32_23 : BitVec 32 := 0#32
  let v79 : BitVec 1 := Scalar.cmpi .slt c2_i32 c0_i32_23
  let v80 : BitVec 32 := Scalar.extui v79
  let v81 : BitVec 32 := Scalar.subi v78 v80
  let v82 : BitVec 1 := Scalar.cmpi .ne v76 v81
  let v83 : BitVec 32 := Scalar.remsi v70 c2_i32
  let c0_i32_24 : BitVec 32 := 0#32
  let v84 : BitVec 1 := Scalar.cmpi .ne v83 c0_i32_24
  let v85 : BitVec 1 := Scalar.andi v82 v84
  let v71 : BitVec 32 := Scalar.divsi v70 c2_i32
  let c1_i32_25 : BitVec 32 := 1#32
  let v86 : BitVec 32 := Scalar.subi v71 c1_i32_25
  let v87 : BitVec 32 := Scalar.select v85 v86 v71
  let c1_i32_26 : BitVec 32 := 1#32
  let v88 : BitVec 32 := Scalar.addi v87 c1_i32_26
  let v89 : BitVec 32 := Scalar.subi v88 c0_i32_27
  let c1_i32_28 : BitVec 32 := 1#32
  let v91 : BitVec 32 := Scalar.divsi v89 c1_i32_28
  let v92 : BitVec 32 := Scalar.muli v91 c1_i32_28
  let v93 : BitVec 32 := Scalar.addi c0_i32_27 v92
  let c1_i32_30 : BitVec 32 := 1#32
  let arg7 : BitVec 32 := Scf.iv v93 c1_i32_30 k0_t2
  let v96 : BitVec 32 := Scalar.muli c2_i32_31 arg7
  let v97 : BitVec 32 := Scalar.addi v38 v96
  let v173 : Index := Scalar.indexCast v97
  let c0_54 : Index := 0#32
  ![v173.toNat, 0]
def k0_off16 (arg10 : BitVec 32) : Fin 2 → Nat :=
  let c64_i32_59 : BitVec 32 := 64#32
  let v184 : BitVec 32 := Scalar.muli arg10 c64_i32_59
  let v185 : Index := Scalar.indexCast v184
  let c0_60 : Index := 0#32
  ![v185.toNat, 0]
def k0_cond3 (v21 : BitVec 32) (v38 : BitVec 32) (k0_t2 : Fin (k0_t2_loop v21 v38).trips) : BitVec 1 :=
  let c2_i32_31 : BitVec 32 := 2#32
  let c0_i32_27 : BitVec 32 := 0#32
  let v70 : BitVec 32 := Scalar.subi v21 v38
  let c0_i32_20 : BitVec 32 := 0#32
  let v72 : BitVec 1 := Scalar.cmpi .sgt v70 c0_i32_20
  let v73 : BitVec 32 := Scalar.extui v72
  let c0_i32_21 : BitVec 32 := 0#32
  let v74 : BitVec 1 := Scalar.cmpi .slt v70 c0_i32_21
  let v75 : BitVec 32 := Scalar.extui v74
  let v76 : BitVec 32 := Scalar.subi v73 v75
  let c2_i32 : BitVec 32 := 2#32
  let c0_i32_22 : BitVec 32 := 0#32
  let v77 : BitVec 1 := Scalar.cmpi .sgt c2_i32 c0_i32_22
  let v78 : BitVec 32 := Scalar.extui v77
  let c0_i32_23 : BitVec 32 := 0#32
  let v79 : BitVec 1 := Scalar.cmpi .slt c2_i32 c0_i32_23
  let v80 : BitVec 32 := Scalar.extui v79
  let v81 : BitVec 32 := Scalar.subi v78 v80
  let v82 : BitVec 1 := Scalar.cmpi .ne v76 v81
  let v83 : BitVec 32 := Scalar.remsi v70 c2_i32
  let c0_i32_24 : BitVec 32 := 0#32
  let v84 : BitVec 1 := Scalar.cmpi .ne v83 c0_i32_24
  let v85 : BitVec 1 := Scalar.andi v82 v84
  let v71 : BitVec 32 := Scalar.divsi v70 c2_i32
  let c1_i32_25 : BitVec 32 := 1#32
  let v86 : BitVec 32 := Scalar.subi v71 c1_i32_25
  let v87 : BitVec 32 := Scalar.select v85 v86 v71
  let c1_i32_26 : BitVec 32 := 1#32
  let v88 : BitVec 32 := Scalar.addi v87 c1_i32_26
  let v89 : BitVec 32 := Scalar.subi v88 c0_i32_27
  let c1_i32_28 : BitVec 32 := 1#32
  let v91 : BitVec 32 := Scalar.divsi v89 c1_i32_28
  let v92 : BitVec 32 := Scalar.muli v91 c1_i32_28
  let v93 : BitVec 32 := Scalar.addi c0_i32_27 v92
  let c1_i32_30 : BitVec 32 := 1#32
  let arg7 : BitVec 32 := Scf.iv v93 c1_i32_30 k0_t2
  let v96 : BitVec 32 := Scalar.muli c2_i32_31 arg7
  let v97 : BitVec 32 := Scalar.addi v38 v96
  let c1_i32_56 : BitVec 32 := 1#32
  let v179 : BitVec 32 := Scalar.addi v97 c1_i32_56
  let v180 : BitVec 1 := Scalar.cmpi .sle v179 v21
  let v181 : BitVec 32 := Scalar.extui v180
  let c0_i32_57 : BitVec 32 := 0#32
  let v182 : BitVec 1 := Scalar.cmpi .ne v181 c0_i32_57
  v182

def k0_off17 (arg10 : BitVec 32) : Fin 3 → Nat :=
  let c0_62 : Index := 0#32
  let c64_i32_61 : BitVec 32 := 64#32
  let v189 : BitVec 32 := Scalar.muli arg10 c64_i32_61
  let v190 : Index := Scalar.indexCast v189
  let c0_63 : Index := 0#32
  ![0, v190.toNat, 0]

def k0_chk8 (v21 : BitVec 32) (v38 : BitVec 32) (k0_t2 : Fin (k0_t2_loop v21 v38).trips) (arg10 : BitVec 32) : Prop :=
  (∀ (k0_h3 : k0_cond3 v21 v38 k0_t2 = 1#1), ∀ a, (k0_off16 arg10) a + S64x1.size a ≤ S6272x1.size a) ∧
  (∀ (k0_h3 : k0_cond3 v21 v38 k0_t2 = 1#1), ∀ a, (k0_off17 arg10) a + S1x64x128.size a ≤ S1x6272x128.size a)
theorem k0_off16_inb : ∀ (v21 : BitVec 32) (v38 : BitVec 32) (k0_t2 : Fin (k0_t2_loop v21 v38).trips) (arg10 : BitVec 32) (k0_hw8 : k0_chk8 v21 v38 k0_t2 arg10), ∀ (k0_h3 : k0_cond3 v21 v38 k0_t2 = 1#1), ∀ a, (k0_off16 arg10) a + S64x1.size a ≤ S6272x1.size a := fun v21 v38 k0_t2 arg10 k0_hw8 k0_h3 => k0_hw8.1 k0_h3
theorem k0_off17_inb : ∀ (v21 : BitVec 32) (v38 : BitVec 32) (k0_t2 : Fin (k0_t2_loop v21 v38).trips) (arg10 : BitVec 32) (k0_hw8 : k0_chk8 v21 v38 k0_t2 arg10), ∀ (k0_h3 : k0_cond3 v21 v38 k0_t2 = 1#1), ∀ a, (k0_off17 arg10) a + S1x64x128.size a ≤ S1x6272x128.size a := fun v21 v38 k0_t2 arg10 k0_hw8 k0_h3 => k0_hw8.2 k0_h3

def k0_off18 (arg11 : BitVec 32) : Fin 2 → Nat :=
  let c64_i32_66 : BitVec 32 := 64#32
  let v199 : BitVec 32 := Scalar.muli arg11 c64_i32_66
  let v200 : Index := Scalar.indexCast v199
  let c0_67 : Index := 0#32
  ![v200.toNat, 0]

def k0_off19 (arg11 : BitVec 32) : Fin 3 → Nat :=
  let c0_69 : Index := 0#32
  let c64_i32_68 : BitVec 32 := 64#32
  let v204 : BitVec 32 := Scalar.muli arg11 c64_i32_68
  let v205 : Index := Scalar.indexCast v204
  let c0_70 : Index := 0#32
  ![0, v205.toNat, 0]

def k0_chk9 (v21 : BitVec 32) (v38 : BitVec 32) (k0_t2 : Fin (k0_t2_loop v21 v38).trips) (arg11 : BitVec 32) : Prop :=
  (∀ (k0_h3 : k0_cond3 v21 v38 k0_t2 = 1#1), ∀ a, (k0_off18 arg11) a + S64x1.size a ≤ S6272x1.size a) ∧
  (∀ (k0_h3 : k0_cond3 v21 v38 k0_t2 = 1#1), ∀ a, (k0_off19 arg11) a + S1x64x128.size a ≤ S1x6272x128.size a)
theorem k0_off18_inb : ∀ (v21 : BitVec 32) (v38 : BitVec 32) (k0_t2 : Fin (k0_t2_loop v21 v38).trips) (arg11 : BitVec 32) (k0_hw9 : k0_chk9 v21 v38 k0_t2 arg11), ∀ (k0_h3 : k0_cond3 v21 v38 k0_t2 = 1#1), ∀ a, (k0_off18 arg11) a + S64x1.size a ≤ S6272x1.size a := fun v21 v38 k0_t2 arg11 k0_hw9 k0_h3 => k0_hw9.1 k0_h3
theorem k0_off19_inb : ∀ (v21 : BitVec 32) (v38 : BitVec 32) (k0_t2 : Fin (k0_t2_loop v21 v38).trips) (arg11 : BitVec 32) (k0_hw9 : k0_chk9 v21 v38 k0_t2 arg11), ∀ (k0_h3 : k0_cond3 v21 v38 k0_t2 = 1#1), ∀ a, (k0_off19 arg11) a + S1x64x128.size a ≤ S1x6272x128.size a := fun v21 v38 k0_t2 arg11 k0_hw9 k0_h3 => k0_hw9.2 k0_h3

def k0_off20 (v21 : BitVec 32) (v38 : BitVec 32) (k0_t2 : Fin (k0_t2_loop v21 v38).trips) : Fin 2 → Nat :=
  let c2_i32_31 : BitVec 32 := 2#32
  let c0_i32_27 : BitVec 32 := 0#32
  let v70 : BitVec 32 := Scalar.subi v21 v38
  let c0_i32_20 : BitVec 32 := 0#32
  let v72 : BitVec 1 := Scalar.cmpi .sgt v70 c0_i32_20
  let v73 : BitVec 32 := Scalar.extui v72
  let c0_i32_21 : BitVec 32 := 0#32
  let v74 : BitVec 1 := Scalar.cmpi .slt v70 c0_i32_21
  let v75 : BitVec 32 := Scalar.extui v74
  let v76 : BitVec 32 := Scalar.subi v73 v75
  let c2_i32 : BitVec 32 := 2#32
  let c0_i32_22 : BitVec 32 := 0#32
  let v77 : BitVec 1 := Scalar.cmpi .sgt c2_i32 c0_i32_22
  let v78 : BitVec 32 := Scalar.extui v77
  let c0_i32_23 : BitVec 32 := 0#32
  let v79 : BitVec 1 := Scalar.cmpi .slt c2_i32 c0_i32_23
  let v80 : BitVec 32 := Scalar.extui v79
  let v81 : BitVec 32 := Scalar.subi v78 v80
  let v82 : BitVec 1 := Scalar.cmpi .ne v76 v81
  let v83 : BitVec 32 := Scalar.remsi v70 c2_i32
  let c0_i32_24 : BitVec 32 := 0#32
  let v84 : BitVec 1 := Scalar.cmpi .ne v83 c0_i32_24
  let v85 : BitVec 1 := Scalar.andi v82 v84
  let v71 : BitVec 32 := Scalar.divsi v70 c2_i32
  let c1_i32_25 : BitVec 32 := 1#32
  let v86 : BitVec 32 := Scalar.subi v71 c1_i32_25
  let v87 : BitVec 32 := Scalar.select v85 v86 v71
  let c1_i32_26 : BitVec 32 := 1#32
  let v88 : BitVec 32 := Scalar.addi v87 c1_i32_26
  let v89 : BitVec 32 := Scalar.subi v88 c0_i32_27
  let c1_i32_28 : BitVec 32 := 1#32
  let v91 : BitVec 32 := Scalar.divsi v89 c1_i32_28
  let v92 : BitVec 32 := Scalar.muli v91 c1_i32_28
  let v93 : BitVec 32 := Scalar.addi c0_i32_27 v92
  let c1_i32_30 : BitVec 32 := 1#32
  let arg7 : BitVec 32 := Scf.iv v93 c1_i32_30 k0_t2
  let v96 : BitVec 32 := Scalar.muli c2_i32_31 arg7
  let v97 : BitVec 32 := Scalar.addi v38 v96
  let c1_i32_58 : BitVec 32 := 1#32
  let v183 : BitVec 32 := Scalar.addi v97 c1_i32_58
  let v227 : Index := Scalar.indexCast v183
  let c0_75 : Index := 0#32
  ![v227.toNat, 0]

def k0_chk1 (v21 : BitVec 32) (v38 : BitVec 32) : Prop :=
  ((k0_t1_loop v21 v38).OK) ∧
  (∀ k0_t1 : Fin (k0_t1_loop v21 v38).trips, ∀ a, (k0_off5 v21 v38 k0_t1) a + S1x128.size a ≤ S64x128.size a) ∧
  (∀ k0_t1 : Fin (k0_t1_loop v21 v38).trips, ∀ (k0_h2 : k0_cond2 v21 v38 k0_t1 = 1#1), ∀ a, (k0_off10 v21 v38 k0_t1) a + S1x128.size a ≤ S64x128.size a) ∧
  ((k0_t2_loop v21 v38).OK) ∧
  (∀ k0_t2 : Fin (k0_t2_loop v21 v38).trips, ∀ a, (k0_off15 v21 v38 k0_t2) a + S1x128.size a ≤ S64x128.size a) ∧
  (∀ k0_t2 : Fin (k0_t2_loop v21 v38).trips, ∀ (k0_h3 : k0_cond3 v21 v38 k0_t2 = 1#1), ∀ a, (k0_off20 v21 v38 k0_t2) a + S1x128.size a ≤ S64x128.size a)
theorem k0_t1_ok : ∀ (v21 : BitVec 32) (v38 : BitVec 32) (k0_hw1 : k0_chk1 v21 v38), (k0_t1_loop v21 v38).OK := fun v21 v38 k0_hw1 => k0_hw1.1
theorem k0_off5_inb : ∀ (v21 : BitVec 32) (v38 : BitVec 32) (k0_hw1 : k0_chk1 v21 v38) (k0_t1 : Fin (k0_t1_loop v21 v38).trips), ∀ a, (k0_off5 v21 v38 k0_t1) a + S1x128.size a ≤ S64x128.size a := fun v21 v38 k0_hw1 k0_t1 => k0_hw1.2.1 k0_t1
theorem k0_off10_inb : ∀ (v21 : BitVec 32) (v38 : BitVec 32) (k0_hw1 : k0_chk1 v21 v38) (k0_t1 : Fin (k0_t1_loop v21 v38).trips), ∀ (k0_h2 : k0_cond2 v21 v38 k0_t1 = 1#1), ∀ a, (k0_off10 v21 v38 k0_t1) a + S1x128.size a ≤ S64x128.size a := fun v21 v38 k0_hw1 k0_t1 k0_h2 => k0_hw1.2.2.1 k0_t1 k0_h2
theorem k0_t2_ok : ∀ (v21 : BitVec 32) (v38 : BitVec 32) (k0_hw1 : k0_chk1 v21 v38), (k0_t2_loop v21 v38).OK := fun v21 v38 k0_hw1 => k0_hw1.2.2.2.1
theorem k0_off15_inb : ∀ (v21 : BitVec 32) (v38 : BitVec 32) (k0_hw1 : k0_chk1 v21 v38) (k0_t2 : Fin (k0_t2_loop v21 v38).trips), ∀ a, (k0_off15 v21 v38 k0_t2) a + S1x128.size a ≤ S64x128.size a := fun v21 v38 k0_hw1 k0_t2 => k0_hw1.2.2.2.2.1 k0_t2
theorem k0_off20_inb : ∀ (v21 : BitVec 32) (v38 : BitVec 32) (k0_hw1 : k0_chk1 v21 v38) (k0_t2 : Fin (k0_t2_loop v21 v38).trips), ∀ (k0_h3 : k0_cond3 v21 v38 k0_t2 = 1#1), ∀ a, (k0_off20 v21 v38 k0_t2) a + S1x128.size a ≤ S64x128.size a := fun v21 v38 k0_hw1 k0_t2 k0_h3 => k0_hw1.2.2.2.2.2 k0_t2 k0_h3

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x6272 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x6272 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x6272x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x128x50000 : Shape := ⟨3, ![8, 128, 50000]⟩
abbrev S8x50000 : Shape := ⟨2, ![8, 50000]⟩
abbrev S_ : Shape := ⟨0, ![]⟩
abbrev S8x50000x128 : Shape := ⟨3, ![8, 50000, 128]⟩
abbrev S400000x128 : Shape := ⟨2, ![400000, 128]⟩
abbrev S64 : Shape := ⟨1, ![64]⟩
abbrev S8x1x1x50000 : Shape := ⟨4, ![8, 1, 1, 50000]⟩
abbrev S1x64x1x1 : Shape := ⟨4, ![1, 64, 1, 1]⟩
abbrev S8x64x1x50000 : Shape := ⟨4, ![8, 64, 1, 50000]⟩
abbrev S8x1x128x50000 : Shape := ⟨4, ![8, 1, 128, 50000]⟩
abbrev S8x64x128x50000 : Shape := ⟨4, ![8, 64, 128, 50000]⟩
abbrev S8x64x128 : Shape := ⟨3, ![8, 64, 128]⟩
abbrev S512x128 : Shape := ⟨2, ![512, 128]⟩

abbrev nBuf : Space → Nat
  | .hbm => 21
  | .vmem => 0
  | .smem => 0
  | _ => 0

abbrev bufTy : (tb : Table) → Fin (tcTables nBuf tb) → BufTy
  | .hbm, ⟨0, _⟩ => ⟨S8x128x50000, .f32⟩
  | .hbm, ⟨1, _⟩ => ⟨S8x50000, .i32⟩
  | .hbm, ⟨2, _⟩ => ⟨S_, .i32⟩
  | .hbm, ⟨3, _⟩ => ⟨S8x50000x128, .f32⟩
  | .hbm, ⟨4, _⟩ => ⟨S400000x128, .f32⟩
  | .hbm, ⟨5, _⟩ => ⟨S64, .i32⟩
  | .hbm, ⟨6, _⟩ => ⟨S8x1x1x50000, .i32⟩
  | .hbm, ⟨7, _⟩ => ⟨S1x64x1x1, .i32⟩
  | .hbm, ⟨8, _⟩ => ⟨S8x64x1x50000, .i32⟩
  | .hbm, ⟨9, _⟩ => ⟨S8x64x1x50000, .i32⟩
  | .hbm, ⟨10, _⟩ => ⟨S8x64x1x50000, .i1⟩
  | .hbm, ⟨11, _⟩ => ⟨S8x1x128x50000, .f32⟩
  | .hbm, ⟨12, _⟩ => ⟨S_, .f32⟩
  | .hbm, ⟨13, _⟩ => ⟨S_, .f32⟩
  | .hbm, ⟨14, _⟩ => ⟨S8x64x128x50000, .i1⟩
  | .hbm, ⟨15, _⟩ => ⟨S8x64x128x50000, .f32⟩
  | .hbm, ⟨16, _⟩ => ⟨S8x64x128x50000, .f32⟩
  | .hbm, ⟨17, _⟩ => ⟨S8x64x128x50000, .f32⟩
  | .hbm, ⟨18, _⟩ => ⟨S_, .f32⟩
  | .hbm, ⟨19, _⟩ => ⟨S8x64x128, .f32⟩
  | .hbm, ⟨20, _⟩ => ⟨S512x128, .f32⟩
  | _, _ => ⟨S8x128x50000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]
-- ==== Proof.Words.lean ====
/-
  The words the kernel computes with, as natural numbers: the label a trip of its loop handles, the
  loop's trip count, the guard of the second row of a trip, and the offsets of its chunk and row
  accesses. Labels are below 64 and chunk numbers below 98, so no word wraps.
-/
module

public import proofs.«01_k».proof.Proof.Gen.KernelIdeal

@[expose] public section

noncomputable section

namespace Cert.Proof.Words

open Cert.KernelIdeal
open Idealize.ShloMosaic

/-- The word of a natural number. -/
abbrev wd (n : ℕ) : BitVec 32 := BitVec.ofNat 32 n

/-- The main loop runs once for every two labels of the block, the remainder loop never. -/
theorem loops : ∀ h l : Fin 64, l.val ≤ h.val →
    (k0_t1_loop (wd h.val) (wd l.val)).trips = (h.val - l.val) / 2 + 1
      ∧ (k0_t1_loop (wd h.val) (wd l.val)).OK
      ∧ (k0_t2_loop (wd h.val) (wd l.val)).trips = 0
      ∧ (k0_t2_loop (wd h.val) (wd l.val)).OK := by
  decide +kernel

theorem trips_t1 {h l : ℕ} (hl : l ≤ h) (hh : h < 64) :
    (k0_t1_loop (wd h) (wd l)).trips = (h - l) / 2 + 1 :=
  (loops ⟨h, hh⟩ ⟨l, lt_of_le_of_lt hl hh⟩ hl).1

theorem trips_t2 {h l : ℕ} (hl : l ≤ h) (hh : h < 64) : (k0_t2_loop (wd h) (wd l)).trips = 0 :=
  (loops ⟨h, hh⟩ ⟨l, lt_of_le_of_lt hl hh⟩ hl).2.2.1

/-- The label of trip `k`, as the kernel computes it. -/
theorem label_eq (l k : ℕ) :
    Scalar.addi (wd l) (Scalar.muli 2#32 (Scf.iv 0#32 1#32 k)) = wd (l + 2 * k) := by
  have e : Scf.iv 0#32 1#32 k = BitVec.ofNat 32 k := by
    rw [Scf.iv, BitVec.zero_add]
    exact BitVec.mul_one _
  rw [e]
  show BitVec.ofNat 32 l + 2#32 * BitVec.ofNat 32 k = BitVec.ofNat 32 (l + 2 * k)
  rw [BitVec.ofNat_add, BitVec.ofNat_mul]

theorem wd_add (a b : ℕ) : Scalar.addi (wd a) (wd b) = wd (a + b) := (BitVec.ofNat_add a b).symm

theorem toNat_wd {n : ℕ} (h : n < 2 ^ 32) : (wd n).toNat = n := by
  rw [BitVec.toNat_ofNat]; exact Nat.mod_eq_of_lt h

theorem guard_iff : ∀ (a : Fin 66) (b : Fin 64),
    Scalar.cmpi .ne (Scalar.extui (Scalar.cmpi .sle (wd a.val) (wd b.val))) (0#32 : BitVec 32) = 1#1 ↔ a.val ≤ b.val := by
  decide +kernel

/-- A trip's second row is handled when its label is still one of the block's. -/
theorem cond2_iff {h l : ℕ} (hl : l ≤ h) (hh : h < 64) (k : Fin (k0_t1_loop (wd h) (wd l)).trips) :
    k0_cond2 (wd h) (wd l) k = 1#1 ↔ l + 2 * k.val + 1 ≤ h := by
  have hk : k.val < (h - l) / 2 + 1 := lt_of_lt_of_eq k.isLt (trips_t1 hl hh)
  unfold k0_cond2
  dsimp only
  rw [label_eq, show (1#32 : BitVec 32) = wd 1 from rfl, wd_add]
  exact guard_iff ⟨l + 2 * k.val + 1, by omega⟩ ⟨h, hh⟩

/-- The row the first store of a trip goes to. -/
theorem off5_eq (h l : ℕ) (k : Fin (k0_t1_loop (wd h) (wd l)).trips) (hk : l + 2 * k.val < 2 ^ 32) :
    k0_off5 (wd h) (wd l) k = ![l + 2 * k.val, 0] := by
  unfold k0_off5
  dsimp only
  rw [label_eq]
  show ![(wd (l + 2 * k.val)).toNat, 0] = _
  rw [toNat_wd hk]

/-- The row the second store of a trip goes to. -/
theorem off10_eq (h l : ℕ) (k : Fin (k0_t1_loop (wd h) (wd l)).trips) (hk : l + 2 * k.val + 1 < 2 ^ 32) :
    k0_off10 (wd h) (wd l) k = ![l + 2 * k.val + 1, 0] := by
  unfold k0_off10
  dsimp only
  rw [label_eq, show (1#32 : BitVec 32) = wd 1 from rfl, wd_add]
  show ![(wd (l + 2 * k.val + 1)).toNat, 0] = _
  rw [toNat_wd hk]

/-- A chunk's first row. -/
theorem off1_eq {q : BitVec 32} (hq : q.toNat ≤ 97) : k0_off1 q = ![q.toNat * 64, 0] := by
  have : (Scalar.muli q 64#32).toNat = q.toNat * 64 := by
    show (q * 64#32).toNat = _
    rw [BitVec.toNat_mul, BitVec.toNat_ofNat]
    omega
  unfold k0_off1
  dsimp only
  show ![(Scalar.muli q 64#32).toNat, 0] = _
  rw [this]

theorem off2_eq {q : BitVec 32} (hq : q.toNat ≤ 97) : k0_off2 q = ![0, q.toNat * 64, 0] := by
  have : (Scalar.muli q 64#32).toNat = q.toNat * 64 := by
    show (q * 64#32).toNat = _
    rw [BitVec.toNat_mul, BitVec.toNat_ofNat]
    omega
  unfold k0_off2
  dsimp only
  show ![0, (Scalar.muli q 64#32).toNat, 0] = _
  rw [this]

/-- A chunk below the ninety-eighth lies inside the block. -/
theorem chk2_of_le {q : BitVec 32} (hq : q.toNat ≤ 97) : k0_chk2 q := by
  unfold k0_chk2
  rw [off1_eq hq, off2_eq hq]
  refine ⟨fun a => ?_, fun a => ?_⟩
  · fin_cases a
    · show q.toNat * 64 + 64 ≤ 6272; omega
    · show 0 + 1 ≤ 1; omega
  · fin_cases a
    · show 0 + 1 ≤ 1; omega
    · show q.toNat * 64 + 64 ≤ 6272; omega
    · show 0 + 128 ≤ 128; omega

theorem chk3_of_le {q : BitVec 32} (hq : q.toNat ≤ 97) : k0_chk3 q := chk2_of_le hq

theorem chk4_of_le {v21 v38 : BitVec 32} {k : Fin (k0_t1_loop v21 v38).trips} {q : BitVec 32}
    (hq : k0_cond2 v21 v38 k = 1#1 → q.toNat ≤ 97) : k0_chk4 v21 v38 k q :=
  ⟨fun h => (chk2_of_le (hq h)).1, fun h => (chk2_of_le (hq h)).2⟩

theorem chk5_of_le {v21 v38 : BitVec 32} {k : Fin (k0_t1_loop v21 v38).trips} {q : BitVec 32}
    (hq : k0_cond2 v21 v38 k = 1#1 → q.toNat ≤ 97) : k0_chk5 v21 v38 k q :=
  ⟨fun h => (chk2_of_le (hq h)).1, fun h => (chk2_of_le (hq h)).2⟩

/-- Every row the loops store to is one of the sixty-four. -/
theorem chk1_of_le {h l : ℕ} (hl : l ≤ h) (hh : h < 64) : k0_chk1 (wd h) (wd l) := by
  have H := loops ⟨h, hh⟩ ⟨l, lt_of_le_of_lt hl hh⟩ hl
  have H2 : ∀ k : Fin (k0_t2_loop (wd h) (wd l)).trips, False := fun k => by
    exact absurd (lt_of_lt_of_eq k.isLt H.2.2.1) (Nat.not_lt_zero _)
  refine ⟨H.2.1, fun k => ?_, fun k hc => ?_, H.2.2.2, fun k => (H2 k).elim, fun k => (H2 k).elim⟩
  · have hk : k.val < (h - l) / 2 + 1 := lt_of_lt_of_eq k.isLt H.1
    rw [off5_eq h l k (by omega)]
    intro a
    fin_cases a
    · show l + 2 * k.val + 1 ≤ 64; omega
    · show 0 + 128 ≤ 128; omega
  · have hk := (cond2_iff hl hh k).1 hc
    rw [off10_eq h l k (by omega)]
    intro a
    fin_cases a
    · show l + 2 * k.val + 1 + 1 ≤ 64; omega
    · show 0 + 128 ≤ 128; omega

end Cert.Proof.Words

end
-- ==== Proof.Rows.lean ====
/-
  What one block leaves in the pooled rows, as a function of what the kernel holds: the ids' column,
  the transposed features, the per-chunk extrema and the pooled rows it found.

  A label's first and last chunk are counts over the per-chunk extrema (`cntLt`, `cntLe`); its row
  takes in the maximum over those two chunks' rows of that label and over the chunks strictly between
  (`rowVal`); a block does so for every label from its first id to its greatest (`rowsTo`).
-/
module

public import proofs.«01_k».proof.Proof.Words
public import proofs.«01_k».proof.Proof.Gen.KernelIdeal.Skeleton
public import Idealize.ShloMosaic.Lib.ValueIdxCore
public import Idealize.ShloMosaic.Lib.VecWindow

@[expose] public section

noncomputable section

namespace Cert.Proof.Rows

open Cert.KernelIdeal Cert.KernelIdeal.Gen
open Idealize.ShloMosaic Idealize.ShloMosaic.ValueIdx
open Cert.Proof.Words

variable {F : FTy → Type} [FloatOps F]

/-- How many chunks have an extremum below a word. -/
def cntLt (g : IVec S98x1 32) (w : BitVec 32) : BitVec 32 :=
  extractAt ![0, 0, 0] (shapeCast S1x1x1 (multiReductionI .add [1, 2] S1
    (shapeCast S1x98x1 (extui 32 (cmpi .slt g (broadcast S98x1 w)) natLt_1_32) shapeCasts_S98x1_S1x98x1)
    0#32 reduces_S1x98x1_S1 rfl) shapeCasts_S1_S1x1x1) inpos_S1x1x1_p0_0_0

/-- How many chunks have an extremum at most a word. -/
def cntLe (g : IVec S98x1 32) (w : BitVec 32) : BitVec 32 :=
  extractAt ![0, 0, 0] (shapeCast S1x1x1 (multiReductionI .add [1, 2] S1
    (shapeCast S1x98x1 (extui 32 (cmpi .sle g (broadcast S98x1 w)) natLt_1_32) shapeCasts_S98x1_S1x98x1)
    0#32 reduces_S1x98x1_S1 rfl) shapeCasts_S1_S1x1x1) inpos_S1x1x1_p0_0_0

/-- The chunks' numbers. -/
abbrev chunkIx : IVec S98x1 32 := iota .tc S98x1 32 [0] iota_S98x1_d0_w32

/-- The sixty-four ids of chunk `q`. -/
def ids64 (V : IVec S6272x1 32) (q : ℕ) : IVec S64x1 32 :=
  fun j => V (ix2 (Fin.ofNat 6272 (q * 64 + (j 0).val)) (j 1))

/-- The sixty-four feature rows of chunk `q`. -/
def feats64 (V : FVec F S1x6272x128 .f32) (q : ℕ) : FVec F S1x64x128 .f32 :=
  fun j => V (ix3 (j 0) (Fin.ofNat 6272 (q * 64 + (j 1).val)) (j 2))

/-- Row `n` of the pooled rows. -/
def getRow (S : FVec F S64x128 .f32) (n : ℕ) : FVec F S1x128 .f32 :=
  fun j => S (ix2 (Fin.ofNat 64 n) (j 1))

/-- What the row of label `w` becomes, its first chunk `hj` and last chunk `tj`. -/
def rowUpd (v32 : FVec F S98x128 .f32) (V6 : IVec S6272x1 32) (V5 : FVec F S1x6272x128 .f32)
    (hj tj w : BitVec 32) (row : FVec F S1x128 .f32) : FVec F S1x128 .f32 :=
  k0_pay10 v32 chunkIx hj tj w (cmpi .eq (ids64 V6 hj.toNat) (broadcast S64x1 w)) (feats64 V5 hj.toNat)
    (ids64 V6 tj.toNat) (feats64 V5 tj.toNat) row

/-- What the row of label `s` becomes. -/
def rowVal (v28 v30 : IVec S98x1 32) (v32 : FVec F S98x128 .f32) (V6 : IVec S6272x1 32)
    (V5 : FVec F S1x6272x128 .f32) (s : ℕ) (row : FVec F S1x128 .f32) : FVec F S1x128 .f32 :=
  rowUpd v32 V6 V5 (cntLt v30 (wd s)) (Scalar.subi (cntLe v28 (wd s)) 1#32) (wd s) row

/-- The pooled rows once the labels from `l` below `n`, and at most `h`, are done. -/
def rowsTo (v28 v30 : IVec S98x1 32) (v32 : FVec F S98x128 .f32) (V6 : IVec S6272x1 32)
    (V5 : FVec F S1x6272x128 .f32) (l h n : ℕ) (S : FVec F S64x128 .f32) : FVec F S64x128 .f32 :=
  fun j => if l ≤ (j 0).val ∧ (j 0).val ≤ h ∧ (j 0).val < n then
      rowVal v28 v30 v32 V6 V5 (j 0).val (getRow S (j 0).val) (ix2 0 (j 1))
    else S j

/-- Before the first label nothing is done. -/
theorem rowsTo_start (v28 v30 : IVec S98x1 32) (v32 : FVec F S98x128 .f32) (V6 : IVec S6272x1 32)
    (V5 : FVec F S1x6272x128 .f32) (l h : ℕ) (S : FVec F S64x128 .f32) :
    rowsTo v28 v30 v32 V6 V5 l h l S = S := by
  funext j
  exact if_neg fun hj => by omega

/-- A row not yet done is the row found. -/
theorem getRow_rowsTo (v28 v30 : IVec S98x1 32) (v32 : FVec F S98x128 .f32) (V6 : IVec S6272x1 32)
    (V5 : FVec F S1x6272x128 .f32) (l h n : ℕ) (hn : n < 64) (S : FVec F S64x128 .f32) :
    getRow (rowsTo v28 v30 v32 V6 V5 l h n S) n = getRow S n := by
  funext j
  have e : (Fin.ofNat 64 n).val = n := Nat.mod_eq_of_lt hn
  refine if_neg fun hj => ?_
  have h3 := hj.2.2
  change (Fin.ofNat 64 n).val < n at h3
  omega

/-- One more label. -/
theorem put_rowsTo (v28 v30 : IVec S98x1 32) (v32 : FVec F S98x128 .f32) (V6 : IVec S6272x1 32)
    (V5 : FVec F S1x6272x128 .f32) (l h n : ℕ) (hl : l ≤ n) (hh : n ≤ h) (S : FVec F S64x128 .f32) :
    VecWindow.put (rowsTo v28 v30 v32 V6 V5 l h n S) ![n, 0] S1x128.size
        (rowVal v28 v30 v32 V6 V5 n (getRow S n))
      = rowsTo v28 v30 v32 V6 V5 l h (n + 1) S := by
  funext j
  unfold VecWindow.put
  by_cases hj : (j 0).val = n
  · have H : ∀ a, (![n, 0] : Fin 2 → ℕ) a ≤ (j a).val ∧ (j a).val < (![n, 0] : Fin 2 → ℕ) a + S1x128.size a := by
      intro a
      fin_cases a
      · show n ≤ (j 0).val ∧ (j 0).val < n + 1; omega
      · show 0 ≤ (j 1).val ∧ (j 1).val < 0 + 128
        have := idx2_lt1 j; omega
    rw [dif_pos H]
    unfold rowsTo
    rw [if_pos (by omega), hj]
    refine congrArg (rowVal v28 v30 v32 V6 V5 n (getRow S n)) ?_
    funext a
    refine Fin.ext ?_
    fin_cases a
    · show (j 0).val - n = 0; omega
    · show (j 1).val - 0 = (j 1).val; omega
  · have H : ¬ ∀ a, (![n, 0] : Fin 2 → ℕ) a ≤ (j a).val ∧ (j a).val < (![n, 0] : Fin 2 → ℕ) a + S1x128.size a := by
      intro H
      have := H 0
      change n ≤ (j 0).val ∧ (j 0).val < n + 1 at this
      omega
    rw [dif_neg H]
    unfold rowsTo
    by_cases hc : l ≤ (j 0).val ∧ (j 0).val ≤ h ∧ (j 0).val < n
    · rw [if_pos hc, if_pos (by omega)]
    · rw [if_neg hc, if_neg (by omega)]

/-- Past the last label nothing more is done. -/
theorem rowsTo_past (v28 v30 : IVec S98x1 32) (v32 : FVec F S98x128 .f32) (V6 : IVec S6272x1 32)
    (V5 : FVec F S1x6272x128 .f32) (l h n n' : ℕ) (hn : h < n) (hn' : h < n') (S : FVec F S64x128 .f32) :
    rowsTo v28 v30 v32 V6 V5 l h n S = rowsTo v28 v30 v32 V6 V5 l h n' S := by
  funext j
  unfold rowsTo
  by_cases hc : l ≤ (j 0).val ∧ (j 0).val ≤ h ∧ (j 0).val < n
  · rw [if_pos hc, if_pos (by omega)]
  · rw [if_neg hc, if_neg (by omega)]

/-! ## The accesses as these functions -/

theorem window_ids (V : IVec S6272x1 32) {q : ℕ} (hq : q ≤ 97)
    (inb : ∀ a, (![q * 64, 0] : Fin 2 → ℕ) a + S64x1.size a ≤ S6272x1.size a) :
    VecWindow.window (s := S6272x1) V ![q * 64, 0] S64x1.size inb = ids64 V q := by
  funext j
  refine congrArg V ?_
  funext a
  refine Fin.ext ?_
  have h0 := idx2_lt0 (n0 := 64) (n1 := 1) j
  fin_cases a
  · show q * 64 + 1 * (j 0).val = (q * 64 + (j 0).val) % 6272
    rw [Nat.mod_eq_of_lt] <;> omega
  · show 0 + 1 * (j 1).val = (j 1).val; omega

omit [FloatOps F] in
theorem window_feats (V : FVec F S1x6272x128 .f32) {q : ℕ} (hq : q ≤ 97)
    (inb : ∀ a, (![0, q * 64, 0] : Fin 3 → ℕ) a + S1x64x128.size a ≤ S1x6272x128.size a) :
    VecWindow.window (s := S1x6272x128) V ![0, q * 64, 0] S1x64x128.size inb = feats64 V q := by
  funext j
  refine congrArg V ?_
  funext a
  refine Fin.ext ?_
  have h0 : (j 1).val < 64 := (j 1).isLt
  fin_cases a
  · show 0 + 1 * (j 0).val = (j 0).val; omega
  · show q * 64 + 1 * (j 1).val = (q * 64 + (j 1).val) % 6272
    rw [Nat.mod_eq_of_lt] <;> omega
  · show 0 + 1 * (j 2).val = (j 2).val; omega

omit [FloatOps F] in
theorem window_row (S : FVec F S64x128 .f32) {n : ℕ} (hn : n < 64)
    (inb : ∀ a, (![n, 0] : Fin 2 → ℕ) a + S1x128.size a ≤ S64x128.size a) :
    VecWindow.window (s := S64x128) S ![n, 0] S1x128.size inb = getRow S n := by
  funext j
  refine congrArg S ?_
  funext a
  refine Fin.ext ?_
  have h0 : (j 0).val < 1 := (j 0).isLt
  fin_cases a
  · show n + 1 * (j 0).val = n % 64
    rw [Nat.mod_eq_of_lt hn]; omega
  · show 0 + 1 * (j 1).val = (j 1).val; omega

end Cert.Proof.Rows

end
-- ==== Proof.Trip.lean ====
/-
  One trip of the kernel's loop, and the loop: the rows of two labels at a time.
-/
module

public import proofs.«01_k».proof.Proof.Rows
public import proofs.«01_k».proof.Proof.Gen.KernelIdeal.Loops
public import Idealize.ShloMosaic.Lib.Exec
public import Idealize.ShloMosaic.Lib.Tactic

@[expose] public section

noncomputable section

namespace Cert.Proof.Trip

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.Proof.Words Cert.Proof.Rows

variable {F : FTy → Type} [FloatOps F]

local notation "𝕄" => MT nD τ sig Unit (Elt F) ℕ (UR sig nD τ) ℕ
abbrev 𝒱₀ : Variants := Variants.none

/-- What the loop carries before a trip: the first and last chunks of its two labels. -/
def carry (v28 v30 : IVec S98x1 32) (n : ℕ) : BitVec 32 × BitVec 32 × BitVec 32 × BitVec 32 :=
  (cntLt v30 (wd n), Scalar.subi (cntLe v28 (wd n)) 1#32,
    cntLt v30 (wd (n + 1)), Scalar.subi (cntLe v28 (wd (n + 1))) 1#32)

/-- Every label from `l` to `h` has its first and last chunk among the ninety-eight. -/
def ChunksOK (v28 v30 : IVec S98x1 32) (l h : ℕ) : Prop :=
  ∀ s, l ≤ s → s ≤ h → (cntLt v30 (wd s)).toNat ≤ 97 ∧ (Scalar.subi (cntLe v28 (wd s)) 1#32).toNat ≤ 97

section

variable (c : Dev nD) (i : grid0.Coords)
  (arg2 : Memref sig .tc .vmem S1x1x6272 .i32) (harg2 : arg2.IsWhole)
  (arg3 : Memref sig .tc .vmem S1x128x6272 .f32) (harg3 : arg3.IsWhole)
  (arg4 : Memref sig .tc .vmem S64x128 .f32) (harg4 : arg4.IsWhole)
  (arg5 : Memref sig .tc .vmem S1x6272x128 .f32) (harg5 : arg5.IsWhole)
  (arg6 : Memref sig .tc .vmem S6272x1 .i32) (harg6 : arg6.IsWhole)

omit [FloatOps F] in
/-- A chunk of the ids' column, as loaded. -/
theorem load_ids {f6 : Buf (Elt F) (arg6.view.loc (c : Thread nD τ))} {V6 : IVec S6272x1 32}
    (h6 : arg6.view.read (Elt F) f6 = V6) {q : BitVec 32} (hq : q.toNat ≤ 97)
    (inb : ∀ a, k0_off1 q a + S64x1.size a ≤ S6272x1.size a) :
    arg6.view.readAt (Elt F) (Rect.unit (s := S6272x1) (k0_off1 q) S64x1.size inb).toLoadRect f6 = ids64 V6 q.toNat := by
  have inb' : ∀ a, (![q.toNat * 64, 0] : Fin 2 → ℕ) a + S64x1.size a ≤ S6272x1.size a := by
    rw [← off1_eq hq]; exact inb
  rw [View.readAt_unit arg6.view f6 inb (off1_eq hq) inb', h6]
  exact window_ids V6 hq inb'

omit [FloatOps F] in
/-- A chunk of the transposed features, as loaded. -/
theorem load_feats {f5 : Buf (Elt F) (arg5.view.loc (c : Thread nD τ))} {V5 : FVec F S1x6272x128 .f32}
    (h5 : arg5.view.read (Elt F) f5 = V5) {q : BitVec 32} (hq : q.toNat ≤ 97)
    (inb : ∀ a, k0_off2 q a + S1x64x128.size a ≤ S1x6272x128.size a) :
    arg5.view.readAt (Elt F) (Rect.unit (s := S1x6272x128) (k0_off2 q) S1x64x128.size inb).toLoadRect f5
      = feats64 V5 q.toNat := by
  have inb' : ∀ a, (![0, q.toNat * 64, 0] : Fin 3 → ℕ) a + S1x64x128.size a ≤ S1x6272x128.size a := by
    rw [← off2_eq hq]; exact inb
  rw [View.readAt_unit arg5.view f5 inb (off2_eq hq) inb', h5]
  exact window_feats V5 hq inb'

omit [FloatOps F] in
/-- A pooled row, as loaded. -/
theorem load_row {f4 : Buf (Elt F) (arg4.view.loc (c : Thread nD τ))} {S : FVec F S64x128 .f32}
    (h4 : arg4.view.read (Elt F) f4 = S) {off : Fin 2 → ℕ} {n : ℕ} (e : off = ![n, 0]) (hn : n < 64)
    (inb : ∀ a, off a + S1x128.size a ≤ S64x128.size a) :
    arg4.view.readAt (Elt F) (Rect.unit (s := S64x128) off S1x128.size inb).toLoadRect f4 = getRow S n := by
  subst e
  rw [View.readAt_unit arg4.view f4 inb rfl inb, h4]
  exact window_row S hn inb

/-- The row a trip stores, from the values it was computed of. -/
theorem stored_eq {v28 v30 : IVec S98x1 32} {v32 : FVec F S98x128 .f32} {V6 : IVec S6272x1 32}
    {V5 : FVec F S1x6272x128 .f32} {S : FVec F S64x128 .f32} {n : ℕ} {w : BitVec 32} {m : IVec S64x1 1}
    {xh xt : FVec F S1x64x128 .f32} {it : IVec S64x1 32} {row : FVec F S1x128 .f32}
    (hw : w = wd n) (hm : m = cmpi .eq (ids64 V6 (cntLt v30 (wd n)).toNat) (broadcast S64x1 w))
    (hxh : xh = feats64 V5 (cntLt v30 (wd n)).toNat)
    (hit : it = ids64 V6 (Scalar.subi (cntLe v28 (wd n)) 1#32).toNat)
    (hxt : xt = feats64 V5 (Scalar.subi (cntLe v28 (wd n)) 1#32).toNat) (hrow : row = getRow S n) :
    k0_pay10 v32 chunkIx (cntLt v30 (wd n)) (Scalar.subi (cntLe v28 (wd n)) 1#32) w m xh it xt row
      = rowVal v28 v30 v32 V6 V5 n (getRow S n) := by
  subst hw hm hxh hit hxt hrow
  rfl

/-- The second row a trip stores, from the values it was computed of. -/
theorem stored2_eq {v28 v30 : IVec S98x1 32} {v32 : FVec F S98x128 .f32} {V6 : IVec S6272x1 32}
    {V5 : FVec F S1x6272x128 .f32} {S : FVec F S64x128 .f32} {n : ℕ} {w : BitVec 32} {ih : IVec S64x1 32}
    {xh xt : FVec F S1x64x128 .f32} {it : IVec S64x1 32} {row a b : FVec F S1x128 .f32}
    (ha : a = k0_pay3 v32 chunkIx (cntLt v30 (wd n)) (Scalar.subi (cntLe v28 (wd n)) 1#32))
    (hb : b = k0_pay4 w ih xh it xt)
    (hw : Scalar.addi w 1#32 = wd n) (hih : ih = ids64 V6 (cntLt v30 (wd n)).toNat)
    (hxh : xh = feats64 V5 (cntLt v30 (wd n)).toNat)
    (hit : it = ids64 V6 (Scalar.subi (cntLe v28 (wd n)) 1#32).toNat)
    (hxt : xt = feats64 V5 (Scalar.subi (cntLe v28 (wd n)) 1#32).toNat) (hrow : row = getRow S n) :
    k0_pay1 a b row = rowVal v28 v30 v32 V6 V5 n (getRow S n) := by
  subst ha hb hih hxh hit hxt hrow
  have e : k0_pay1 (k0_pay3 v32 chunkIx (cntLt v30 (wd n)) (Scalar.subi (cntLe v28 (wd n)) 1#32))
      (k0_pay4 w (ids64 V6 (cntLt v30 (wd n)).toNat) (feats64 V5 (cntLt v30 (wd n)).toNat)
        (ids64 V6 (Scalar.subi (cntLe v28 (wd n)) 1#32).toNat) (feats64 V5 (Scalar.subi (cntLe v28 (wd n)) 1#32).toNat))
      (getRow S n)
    = rowUpd v32 V6 V5 (cntLt v30 (wd n)) (Scalar.subi (cntLe v28 (wd n)) 1#32) (Scalar.addi w 1#32) (getRow S n) := rfl
  rw [e, hw]
  rfl

/-- A pooled row stored where the label's row is. -/
theorem store_row {v28 v30 : IVec S98x1 32} {v32 : FVec F S98x128 .f32} {V6 : IVec S6272x1 32}
    {V5 : FVec F S1x6272x128 .f32} {S : FVec F S64x128 .f32} {l h n : ℕ} (hl : l ≤ n) (hh : n ≤ h)
    {f4 : Buf (Elt F) (arg4.view.loc (c : Thread nD τ))} (L : List (View.Piece (Elt F) S64x128 .f32))
    (h4 : arg4.view.read (Elt F) (arg4.view.writes (Elt F) f4 L) = rowsTo v28 v30 v32 V6 V5 l h n S)
    {off : Fin 2 → ℕ} (e : off = ![n, 0]) (inb : ∀ a, off a + S1x128.size a ≤ S64x128.size a)
    {w : FVec F S1x128 .f32} (hw : w = rowVal v28 v30 v32 V6 V5 n (getRow S n)) :
    arg4.view.read (Elt F) (arg4.view.writes (Elt F) f4 (⟨Rect.unit (s := S64x128) off S1x128.size inb, w⟩ :: L))
      = rowsTo v28 v30 v32 V6 V5 l h (n + 1) S := by
  rw [View.read_writes_cons_put arg4.view f4 inb w L e, h4, hw]
  exact put_rowsTo v28 v30 v32 V6 V5 l h n hl hh S

/-- Before a trip: the ids' column and the transposed features as they are, the pooled rows done up to
    the trip's first label. -/
def held (f6 : Buf (Elt F) (arg6.view.loc (c : Thread nD τ))) (f5 : Buf (Elt F) (arg5.view.loc (c : Thread nD τ)))
    (S : FVec F S64x128 .f32) : sProp 𝕄 :=
  iprop((arg6.view.loc (c : Thread nD τ) ↦[arg6.view.set]{fullShare} f6)
    ∗ (arg5.view.loc (c : Thread nD τ) ↦[arg5.view.set]{fullShare} f5)
    ∗ ∃ f4, (arg4.view.loc (c : Thread nD τ) ↦[arg4.view.set]{fullShare} f4) ∗ ⌜arg4.view.read (Elt F) f4 = S⌝)

/-- One trip does the rows of its two labels and carries the chunks of the next two. -/
theorem trip (v28 v30 : IVec S98x1 32) (v32 : FVec F S98x128 .f32) (l h : ℕ) (hl : l ≤ h) (hh : h < 64)
    (hw : k0_chk1 (wd h) (wd l)) (hC : ChunksOK v28 v30 l h)
    (f6 : Buf (Elt F) (arg6.view.loc (c : Thread nD τ))) (f5 : Buf (Elt F) (arg5.view.loc (c : Thread nD τ)))
    (V6 : IVec S6272x1 32) (V5 : FVec F S1x6272x128 .f32) (S : FVec F S64x128 .f32)
    (h6 : arg6.view.read (Elt F) f6 = V6) (h5 : arg5.view.read (Elt F) f5 = V5)
    (k : Fin (k0_t1_loop (wd h) (wd l)).trips) :
    held c arg4 arg5 arg6 f6 f5 (rowsTo v28 v30 v32 V6 V5 l h (l + 2 * k.val) S)
      ⊢ wp frame (wpE (defs₀ (F := F)) 𝒱₀ (c : Thread nD τ) none) Set.univ
        (k0_t1_body (F := F) i arg2 harg2 arg3 harg3 arg4 harg4 arg5 harg5 arg6 harg6 (wd h) v28 v30 v32 chunkIx (wd l) hw k
          (carry v28 v30 (l + 2 * k.val)))
        (fun acc => iprop(⌜acc = carry v28 v30 (l + 2 * (k.val + 1))⌝
          ∗ held c arg4 arg5 arg6 f6 f5 (rowsTo v28 v30 v32 V6 V5 l h (l + 2 * (k.val + 1)) S))) := by
  have hk : k.val < (h - l) / 2 + 1 := lt_of_lt_of_eq k.isLt (trips_t1 hl hh)
  have hA := hC (l + 2 * k.val) (by omega) (by omega)
  have c2 := chk2_of_le hA.1
  have c3 := chk3_of_le hA.2
  have hB : k0_cond2 (wd h) (wd l) k = 1#1 → _ := fun e => hC (l + 2 * k.val + 1) (by omega) ((cond2_iff hl hh k).1 e)
  have c4 := chk4_of_le (k := k) fun e => (hB e).1
  have c5 := chk5_of_le (k := k) fun e => (hB e).2
  unfold held carry
  iintro ⟨H6, H5, ⟨%f4, H4, %h4⟩⟩
  have hn : l + 2 * k.val < 64 := by omega
  have e5 := off5_eq h l k (by omega)
  have hlab := label_eq l k.val
  have i1 := (load_ids c arg6 h6 hA.1 c2.1)
  have i2 := (load_feats c arg5 h5 hA.1 c2.2)
  have i3 := (load_ids c arg6 h6 hA.2 c3.1)
  have i4 := (load_feats c arg5 h5 hA.2 c3.2)
  have i5 := (load_row c arg4 h4 e5 hn (k0_off5_inb (wd h) (wd l) hw k)).trans
    (getRow_rowsTo v28 v30 v32 V6 V5 l h (l + 2 * k.val) hn S)
  have n2 : Scalar.addi (Scalar.addi (wd l) (Scalar.muli 2#32 (Scf.iv 0#32 1#32 k.val))) 2#32 = wd (l + 2 * (k.val + 1)) := by
    rw [hlab]; exact wd_add _ 2
  have n3 : Scalar.addi (Scalar.addi (wd l) (Scalar.muli 2#32 (Scf.iv 0#32 1#32 k.val))) 3#32 = wd (l + 2 * (k.val + 1) + 1) := by
    rw [hlab]; exact wd_add _ 3
  have hcar : (cntLt v30 (Scalar.addi (Scalar.addi (wd l) (Scalar.muli 2#32 (Scf.iv 0#32 1#32 k.val))) 2#32),
      Scalar.subi (cntLe v28 (Scalar.addi (Scalar.addi (wd l) (Scalar.muli 2#32 (Scf.iv 0#32 1#32 k.val))) 2#32)) 1#32,
      cntLt v30 (Scalar.addi (Scalar.addi (wd l) (Scalar.muli 2#32 (Scf.iv 0#32 1#32 k.val))) 3#32),
      Scalar.subi (cntLe v28 (Scalar.addi (Scalar.addi (wd l) (Scalar.muli 2#32 (Scf.iv 0#32 1#32 k.val))) 3#32)) 1#32)
      = carry v28 v30 (l + 2 * (k.val + 1)) := by
    rw [n2, n3]; rfl
  by_cases hc : k0_cond2 (wd h) (wd l) k = 1#1
  · have hk2 := (cond2_iff hl hh k).1 hc
    have hB' := hB hc
    have e10 := off10_eq h l k (by omega)
    have j1 := (load_ids c arg6 h6 hB'.1 (c4.1 hc))
    have j2 := (load_feats c arg5 h5 hB'.1 (c4.2 hc))
    have j3 := (load_ids c arg6 h6 hB'.2 (c5.1 hc))
    have j4 := (load_feats c arg5 h5 hB'.2 (c5.2 hc))
    have hlab' : Scalar.addi (Scalar.addi (wd l) (Scalar.muli 2#32 (Scf.iv 0#32 1#32 k.val))) 1#32 = wd (l + 2 * k.val + 1) := by
      rw [hlab]; exact wd_add _ 1
    sl_unfold [k0_t1_body]
    sl_exec
    sl_step
    isplitr
    · ipureintro; exact hcar
    isplitl [H6]; · iexact H6
    isplitl [H5]; · iexact H5
    iexists _
    isplitl [H4]; · iexact H4
    ipureintro
    have first := store_row (v28 := v28) (v30 := v30) (v32 := v32) (V6 := V6) (V5 := V5) (S := S) (l := l) (h := h)
      c arg4 (by omega) (by omega) [] h4 e5 (k0_off5_inb (wd h) (wd l) hw k)
      (stored_eq hlab rfl rfl rfl rfl rfl)
    rw [show l + 2 * (k.val + 1) = l + 2 * k.val + 1 + 1 by omega]
    refine store_row (n := l + 2 * k.val + 1) c arg4 (by omega) hk2 _ first e10 _ ?_
    exact stored2_eq (w := Scalar.addi (wd l) (Scalar.muli 2#32 (Scf.iv 0#32 1#32 k.val))) rfl rfl hlab' rfl rfl rfl rfl
      ((load_row c arg4 first e10 (by omega) (k0_off10_inb (wd h) (wd l) hw k hc)).trans
        (getRow_rowsTo v28 v30 v32 V6 V5 l h (l + 2 * k.val + 1) (by omega) S))
  · have hk2 : h < l + 2 * k.val + 1 := Nat.lt_of_not_le fun H => hc ((cond2_iff hl hh k).2 H)
    sl_unfold [k0_t1_body]
    sl_exec
    sl_step
    isplitr
    · ipureintro; exact hcar
    isplitl [H6]; · iexact H6
    isplitl [H5]; · iexact H5
    iexists _
    isplitl [H4]; · iexact H4
    ipureintro
    refine Eq.trans ?_ (rowsTo_past v28 v30 v32 V6 V5 l h (l + 2 * k.val + 1) (l + 2 * (k.val + 1)) hk2 (by omega) S)
    exact store_row c arg4 (by omega) (by omega) [] h4 e5 (k0_off5_inb (wd h) (wd l) hw k)
      (stored_eq hlab rfl rfl rfl rfl rfl)

/-- The invariant: before trip `k` the loop carries the chunks of labels `l + 2 k` and `l + 2 k + 1`, and the
    rows of the labels below `l + 2 k` are done. -/
def loopAt (v28 v30 : IVec S98x1 32) (v32 : FVec F S98x128 .f32) (l h : ℕ)
    (f6 : Buf (Elt F) (arg6.view.loc (c : Thread nD τ))) (f5 : Buf (Elt F) (arg5.view.loc (c : Thread nD τ)))
    (V6 : IVec S6272x1 32) (V5 : FVec F S1x6272x128 .f32) (S : FVec F S64x128 .f32)
    (k : ℕ) (acc : BitVec 32 × BitVec 32 × BitVec 32 × BitVec 32) : sProp 𝕄 :=
  iprop(⌜acc = carry v28 v30 (l + 2 * k)⌝ ∗ held c arg4 arg5 arg6 f6 f5 (rowsTo v28 v30 v32 V6 V5 l h (l + 2 * k) S))

/-- One trip keeps the invariant, the loop's words being the labels `l` and `h`. -/
theorem loopAt_step (v28 v30 : IVec S98x1 32) (v32 : FVec F S98x128 .f32) (l h : ℕ) (hl : l ≤ h) (hh : h < 64)
    (v21 v38 : BitVec 32) (e21 : v21 = wd h) (e38 : v38 = wd l)
    (hw : k0_chk1 v21 v38) (hC : ChunksOK v28 v30 l h)
    (f6 : Buf (Elt F) (arg6.view.loc (c : Thread nD τ))) (f5 : Buf (Elt F) (arg5.view.loc (c : Thread nD τ)))
    (V6 : IVec S6272x1 32) (V5 : FVec F S1x6272x128 .f32) (S : FVec F S64x128 .f32)
    (h6 : arg6.view.read (Elt F) f6 = V6) (h5 : arg5.view.read (Elt F) f5 = V5)
    (k : Fin (k0_t1_loop v21 v38).trips) (acc : BitVec 32 × BitVec 32 × BitVec 32 × BitVec 32) :
    loopAt c arg4 arg5 arg6 v28 v30 v32 l h f6 f5 V6 V5 S k.val acc
      ⊢ wp frame (wpE (defs₀ (F := F)) 𝒱₀ (c : Thread nD τ) none) Set.univ
        (k0_t1_body (F := F) i arg2 harg2 arg3 harg3 arg4 harg4 arg5 harg5 arg6 harg6 v21 v28 v30 v32 chunkIx v38 hw k acc)
        (fun acc => loopAt c arg4 arg5 arg6 v28 v30 v32 l h f6 f5 V6 V5 S (k.val + 1) acc) := by
  subst e21 e38
  unfold loopAt
  iintro ⟨%e, H⟩
  subst e
  iapply (trip c i arg2 harg2 arg3 harg3 arg4 harg4 arg5 harg5 arg6 harg6 v28 v30 v32 l h hl hh hw hC f6 f5 V6 V5 S h6 h5 k)
  iexact H

end

end Cert.Proof.Trip

end
-- ==== Proof.Body.lean ====
/-
  What one block of the kernel does to its buffers.
-/
module

public import proofs.«01_k».proof.Proof.Trip

@[expose] public section

noncomputable section

namespace Cert.Proof.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.Proof.Words Cert.Proof.Rows Cert.Proof.Trip

variable {F : FTy → Type} [FloatOps F]

local notation "𝕄" => MT nD τ sig Unit (Elt F) ℕ (UR sig nD τ) ℕ

/-- A word is the word of the number it holds. -/
theorem wd_toNat (w : BitVec 32) : wd w.toNat = w :=
  BitVec.eq_of_toNat_eq (toNat_wd w.isLt)

/-- The greatest id of a block, as the kernel computes it. -/
def hiW (i : grid0.Coords) (X0 : IVec S1x1x6272 32) : BitVec 32 :=
  extractAt ![0, 0, 0] (k0_pay23 (F := F) i X0) inpos_S1x1x1_p0_0_0

/-- The first id of a block. -/
def loW (X0 : IVec S1x1x6272 32) : BitVec 32 :=
  extractAt ![0, 0] (k0_pay31 (k0_pay21 (F := F) X0)) inpos_S1x1_p0_0

/-- The ids of a block name labels in range: the first is at most the greatest, and every label between has its
    chunks. -/
structure BlockOK (F : FTy → Type) [FloatOps F] (i : grid0.Coords) (X0 : IVec S1x1x6272 32) : Prop where
  le : (loW (F := F) X0).toNat ≤ (hiW (F := F) i X0).toNat
  lt : (hiW (F := F) i X0).toNat < 64
  chunks : ChunksOK (k0_pay27 (F := F) i X0) (k0_pay28 (F := F) i X0) (loW (F := F) X0).toNat (hiW (F := F) i X0).toNat

/-- The pooled rows a block leaves of those it found. -/
def pooled (i : grid0.Coords) (X0 : IVec S1x1x6272 32) (X1 : FVec F S1x128x6272 .f32) (S : FVec F S64x128 .f32) :
    FVec F S64x128 .f32 :=
  rowsTo (k0_pay27 (F := F) i X0) (k0_pay28 (F := F) i X0) (k0_pay29 X1) (k0_pay25 (F := F) i X0) (k0_pay20 X1)
    (loW (F := F) X0).toNat (hiW (F := F) i X0).toNat ((hiW (F := F) i X0).toNat + 1) S

/-- Whether the block is its array's first. -/
def isFirst (i : grid0.Coords) : Prop :=
  Scalar.cmpi .ne (Scalar.extui (Scalar.cmpi .eq (BitVec.ofNat 32 (i 1).val) 0#32) : BitVec 32) 0#32 = 1#1

instance (i : grid0.Coords) : Decidable (isFirst i) := by unfold isFirst; infer_instance

/-- The pooled rows a block works on: all least at an array's first block, else those found. -/
def start (i : grid0.Coords) (G : FVec F S64x128 .f32) : FVec F S64x128 .f32 :=
  if isFirst i then k0_pay30 else G

section

variable (c : Dev nD) (i : grid0.Coords)
  (arg2 : Memref sig .tc .vmem S1x1x6272 .i32) (harg2 : arg2.IsWhole)
  (arg3 : Memref sig .tc .vmem S1x128x6272 .f32) (harg3 : arg3.IsWhole)
  (arg4 : Memref sig .tc .vmem S64x128 .f32) (harg4 : arg4.IsWhole)
  (arg5 : Memref sig .tc .vmem S1x6272x128 .f32) (harg5 : arg5.IsWhole)
  (arg6 : Memref sig .tc .vmem S6272x1 .i32) (harg6 : arg6.IsWhole)

/-- The two loops: the first does every row from the first id's to the greatest id's, the second nothing. -/
theorem loops_run (v28 v30 : IVec S98x1 32) (v32 : FVec F S98x128 .f32) (l h : ℕ) (hl : l ≤ h) (hh : h < 64)
    (hC : ChunksOK v28 v30 l h) (V6 : IVec S6272x1 32) (V5 : FVec F S1x6272x128 .f32) (S : FVec F S64x128 .f32)
    (v21 v38 v93 : BitVec 32) (e21 : v21 = wd h) (e38 : v38 = wd l) (hw : k0_chk1 v21 v38)
    (a1 a2 a3 a4 : BitVec 32) (ha : (a1, a2, a3, a4) = carry v28 v30 l)
    (f6 : Buf (Elt F) (arg6.view.loc (c : Thread nD τ))) (f5 : Buf (Elt F) (arg5.view.loc (c : Thread nD τ)))
    (f4 : Buf (Elt F) (arg4.view.loc (c : Thread nD τ)))
    (h6 : arg6.view.read (Elt F) f6 = V6) (h5 : arg5.view.read (Elt F) f5 = V5) (h4 : arg4.view.read (Elt F) f4 = S)
    (K : PUnit → sProp 𝕄) :
    iprop(((arg6.view.loc (c : Thread nD τ) ↦[arg6.view.set]{fullShare} f6)
          ∗ (arg5.view.loc (c : Thread nD τ) ↦[arg5.view.set]{fullShare} f5)
          ∗ (arg4.view.loc (c : Thread nD τ) ↦[arg4.view.set]{fullShare} f4))
        ∗ (held c arg4 arg5 arg6 f6 f5 (rowsTo v28 v30 v32 V6 V5 l h (h + 1) S) -∗ K ⟨⟩))
      ⊢ wp frame (wpE (defs₀ (F := F)) 𝒱₀ (c : Thread nD τ) none) Set.univ
        (do
          let (v94_0, v94_1, v94_2, v94_3) ← Scf.Loop.for (k0_t1_loop v21 v38) (k0_t1_ok v21 v38 hw) (a1, a2, a3, a4)
            (k0_t1_body i arg2 harg2 arg3 harg3 arg4 harg4 arg5 harg5 arg6 harg6 v21 v28 v30 v32 chunkIx v38 hw)
          let (v95_0, v95_1, v95_2, v95_3) ← Scf.Loop.for (k0_t2_loop v21 v38) (k0_t2_ok v21 v38 hw) (v94_0, v94_1, v94_2, v94_3)
            (k0_t2_body i arg2 harg2 arg3 harg3 arg4 harg4 arg5 harg5 arg6 harg6 v21 v28 v30 v32 chunkIx v38 hw v93)
          pure ⟨⟩) K := by
  have htr : (k0_t2_loop v21 v38).trips = 0 := by
    rw [e21, e38]; exact trips_t2 hl hh
  have et : (k0_t1_loop v21 v38).trips = (h - l) / 2 + 1 := by
    rw [e21, e38]; exact trips_t1 hl hh
  have last : rowsTo v28 v30 v32 V6 V5 l h (l + 2 * (k0_t1_loop v21 v38).trips) S = rowsTo v28 v30 v32 V6 V5 l h (h + 1) S := by
    rw [et]
    exact rowsTo_past _ _ _ _ _ _ _ _ _ (by omega) (by omega) _
  iintro ⟨⟨H6, H5, H4⟩, Hk⟩
  sl_for (loopAt c arg4 arg5 arg6 v28 v30 v32 l h f6 f5 V6 V5 S) $$ [H4 H5 H6]
  case region =>
    intro k acc
    exact loopAt_step c i arg2 harg2 arg3 harg3 arg4 harg4 arg5 harg5 arg6 harg6 v28 v30 v32 l h hl hh v21 v38 e21 e38 hw hC
      f6 f5 V6 V5 S h6 h5 k acc
  · unfold loopAt held
    isplitr
    · ipureintro; exact ha
    isplitl [H6]; · iexact H6
    isplitl [H5]; · iexact H5
    iexists f4
    isplitl [H4]; · iexact H4
    ipureintro
    rw [Nat.mul_zero, Nat.add_zero, rowsTo_start]
    exact h4
  iintro %acc H
  unfold loopAt
  icases H with ⟨%e, H⟩
  sl_exec
  sl_step
  iapply Hk
  have last' := congrArg (held c arg4 arg5 arg6 f6 f5) last
  rw [← last']
  iexact H

/-- One block: the ids and the features stay, the pooled rows take the block in, and the features are handed on
    transposed. -/
theorem body (X0 : IVec S1x1x6272 32) (X1 : FVec F S1x128x6272 .f32) (G : FVec F S64x128 .f32)
    (Y5 : FVec F S1x6272x128 .f32) (hok : BlockOK F i X0)
    (f6 : Buf (Elt F) (arg6.view.loc (c : Thread nD τ))) (K : PUnit → sProp 𝕄) :
    iprop((owns (c : Thread nD τ) arg2 fullShare X0 ∗ owns (c : Thread nD τ) arg3 fullShare X1
          ∗ owns (c : Thread nD τ) arg4 fullShare G ∗ owns (c : Thread nD τ) arg5 fullShare Y5
          ∗ (arg6.view.loc (c : Thread nD τ) ↦[arg6.view.set]{fullShare} f6))
        ∗ (iprop(owns (c : Thread nD τ) arg2 fullShare X0 ∗ owns (c : Thread nD τ) arg3 fullShare X1
            ∗ owns (c : Thread nD τ) arg4 fullShare (pooled i X0 X1 (start i G))
            ∗ owns (c : Thread nD τ) arg5 fullShare (k0_pay20 X1)
            ∗ ∃ f6', (arg6.view.loc (c : Thread nD τ) ↦[arg6.view.set]{fullShare} f6')) -∗ K ⟨⟩))
      ⊢ wp frame (wpE (defs₀ (F := F)) 𝒱₀ (c : Thread nD τ) none) Set.univ
        (cc0__fused_body (F := F) i arg2 harg2 arg3 harg3 arg4 harg4 arg5 harg5 arg6 harg6) K := by
  unfold owns
  iintro ⟨⟨⟨%f2, %h2, H2⟩, ⟨%f3, %h3, H3⟩, ⟨%f4, %h4, H4⟩, ⟨%f5, %h5, H5⟩, H6⟩, Hk⟩
  have e21 : hiW (F := F) i X0 = wd (hiW (F := F) i X0).toNat := (wd_toNat _).symm
  have e38 : loW (F := F) X0 = wd (loW (F := F) X0).toNat := (wd_toNat _).symm
  have hw : k0_chk1 (hiW (F := F) i X0) (loW (F := F) X0) := by
    rw [e21, e38]; exact chk1_of_le hok.le hok.lt
  have r2 : arg2.view.readAt (Elt F) (Rect.unit (s := S1x1x6272) ![0, 0, 0] S1x1x6272.size inb_S1x1x6272_S1x1x6272_0_0_0).toLoadRect f2 = X0 :=
    (View.readAt_full arg2.view f2 _).trans h2
  have r3 : arg3.view.readAt (Elt F) (Rect.unit (s := S1x128x6272) ![0, 0, 0] S1x128x6272.size inb_S1x128x6272_S1x128x6272_0_0_0).toLoadRect f3 = X1 :=
    (View.readAt_full arg3.view f3 _).trans h3
  have first : (cntLt (k0_pay28 (F := F) i X0) (loW (F := F) X0), Scalar.subi (cntLe (k0_pay27 (F := F) i X0) (loW (F := F) X0)) 1#32,
      cntLt (k0_pay28 (F := F) i X0) (Scalar.addi (loW (F := F) X0) 1#32),
      Scalar.subi (cntLe (k0_pay27 (F := F) i X0) (Scalar.addi (loW (F := F) X0) 1#32)) 1#32)
      = carry (k0_pay27 (F := F) i X0) (k0_pay28 (F := F) i X0) (loW (F := F) X0).toNat := by
    have e1 : wd (loW (F := F) X0).toNat = loW (F := F) X0 := wd_toNat _
    have e2 : wd ((loW (F := F) X0).toNat + 1) = Scalar.addi (loW (F := F) X0) 1#32 := by
      rw [← wd_add, e1]
    unfold carry
    rw [e1, e2]
  by_cases hc : isFirst i
  · have hc' : Scalar.cmpi .ne (Scalar.extui (Scalar.cmpi .eq (BitVec.ofNat 32 (i 1).val) 0#32) : BitVec 32) 0#32 = 1#1 := hc
    sl_unfold [cc0__fused_body]
    sl_exec
    iapply (loops_run c i arg2 harg2 arg3 harg3 arg4 harg4 arg5 harg5 arg6 harg6 (k0_pay27 (F := F) i X0) (k0_pay28 (F := F) i X0)
      (k0_pay29 X1) _ _ hok.le hok.lt hok.chunks (k0_pay25 (F := F) i X0) (k0_pay20 X1) (start i G) _ _ _ e21 e38 _ _ _ _ _ first
      _ _ _ (View.read_writes_full arg6.view _ _ _ _) (View.read_writes_full arg5.view _ _ _ _) ((View.read_writes_full arg4.view _ _ _ _).trans (if_pos hc).symm) K)
    isplitl [H4 H5 H6]
    · isplitl [H6]; · iexact H6
      isplitl [H5]; · iexact H5
      iexact H4
    unfold held
    iintro ⟨H6, H5, ⟨%g4, H4, %h4'⟩⟩
    iapply Hk
    isplitl [H2]
    · iexists f2; isplitr; · ipureintro; exact h2
      iexact H2
    isplitl [H3]
    · iexists f3; isplitr; · ipureintro; exact h3
      iexact H3
    isplitl [H4]
    · iexists g4; isplitr; · ipureintro; exact h4'
      iexact H4
    isplitl [H5]
    · iexists _; isplitr; rotate_left; · iexact H5
      ipureintro; exact View.read_writes_full arg5.view _ _ _ _
    iexists _; iexact H6
  · have hc' : ¬ Scalar.cmpi .ne (Scalar.extui (Scalar.cmpi .eq (BitVec.ofNat 32 (i 1).val) 0#32) : BitVec 32) 0#32 = 1#1 := hc
    sl_unfold [cc0__fused_body]
    sl_exec
    iapply (loops_run c i arg2 harg2 arg3 harg3 arg4 harg4 arg5 harg5 arg6 harg6 (k0_pay27 (F := F) i X0) (k0_pay28 (F := F) i X0)
      (k0_pay29 X1) _ _ hok.le hok.lt hok.chunks (k0_pay25 (F := F) i X0) (k0_pay20 X1) (start i G) _ _ _ e21 e38 _ _ _ _ _ first
      _ _ _ (View.read_writes_full arg6.view _ _ _ _) (View.read_writes_full arg5.view _ _ _ _) (h4.trans (if_neg hc).symm) K)
    isplitl [H4 H5 H6]
    · isplitl [H6]; · iexact H6
      isplitl [H5]; · iexact H5
      iexact H4
    unfold held
    iintro ⟨H6, H5, ⟨%g4, H4, %h4'⟩⟩
    iapply Hk
    isplitl [H2]
    · iexists f2; isplitr; · ipureintro; exact h2
      iexact H2
    isplitl [H3]
    · iexists f3; isplitr; · ipureintro; exact h3
      iexact H3
    isplitl [H4]
    · iexists g4; isplitr; · ipureintro; exact h4'
      iexact H4
    isplitl [H5]
    · iexists _; isplitr; rotate_left; · iexact H5
      ipureintro; exact View.read_writes_full arg5.view _ _ _ _
    iexists _; iexact H6

end

end Cert.Proof.Body

end
-- ==== Proof.Ids.lean ====
/-
  What the kernel computes of a block's ids: the ids' column, each chunk's least and greatest id, the block's
  first and greatest id, and the two counts that find a label's chunks.
-/
module

public import proofs.«01_k».proof.Proof.Body
public import Idealize.ShloMosaic.Lib.WordSum
public import Idealize.ShloMosaic.Lib.WordArith

@[expose] public section

noncomputable section

namespace Cert.Proof.Ids

open Cert.KernelIdeal Cert.KernelIdeal.Gen
open Idealize.ShloMosaic Idealize.ShloMosaic.ValueIdx
open Cert.Proof.Words Cert.Proof.Rows Cert.Proof.Trip Cert.Proof.Body

/-! ## Folds of a choice -/

/-- A fold of an operation that a measure turns into the maximum is at most a bound exactly when the start and
    every element is. -/
theorem fold_le_iff {ι α β : Type*} [DecidableEq ι] [LinearOrder β] (op : α → α → α) [Std.Commutative op] [Std.Associative op]
    (f : α → β) (hop : ∀ a b, f (op a b) = max (f a) (f b)) (g : ι → α) (init : α) (b : β) (s : Finset ι) :
    f (s.fold op init g) ≤ b ↔ f init ≤ b ∧ ∀ i ∈ s, f (g i) ≤ b := by
  induction s using Finset.induction_on with
  | empty => simp
  | insert a s ha ih =>
    rw [Finset.fold_insert ha, hop, max_le_iff, ih]
    simp only [Finset.mem_insert, forall_eq_or_imp]
    tauto

theorem toInt_maxsi (a b : BitVec 32) : (IntOp.maxsi a b).toInt = max a.toInt b.toInt := by
  unfold IntOp.maxsi
  by_cases h : b.slt a
  · have := BitVec.slt_iff_toInt_lt.1 h
    rw [if_pos h, max_eq_left (by omega)]
  · have : ¬ b.toInt < a.toInt := fun H => h (BitVec.slt_iff_toInt_lt.2 H)
    rw [if_neg h, max_eq_right (by omega)]

theorem neg_toInt_minsi (a b : BitVec 32) : -(IntOp.minsi a b).toInt = max (-a.toInt) (-b.toInt) := by
  unfold IntOp.minsi
  by_cases h : a.slt b
  · have := BitVec.slt_iff_toInt_lt.1 h
    rw [if_pos h, max_eq_left (by omega)]
  · have : ¬ a.toInt < b.toInt := fun H => h (BitVec.slt_iff_toInt_lt.2 H)
    rw [if_neg h, max_eq_right (by omega)]

/-- A small word's signed value is its value. -/
theorem toInt_small {w : BitVec 32} (h : w.toNat < 2 ^ 31) : w.toInt = (w.toNat : ℤ) := by
  rw [BitVec.toInt_eq_toNat_of_lt (by omega)]

/-- The elements a row reduction folds over are the row's. -/
theorem row_fiber {P : S98x64.Idx → Prop} (q : Fin 98) :
    (∀ i ∈ Finset.univ.filter (fun i => reduces_S98x64_S98.drop i = (ix1 q : S98.Idx)), P i) ↔ ∀ j : Fin 64, P (ix2 q j) := by
  have hd : ∀ i : S98x64.Idx, (reduces_S98x64_S98.drop i = (ix1 q : S98.Idx)) ↔ i 0 = q := by
    intro i
    have e := reduces_S98x64_S98.drop_apply_val_of_eq i 0 0
    constructor
    · intro h
      rw [h] at e
      exact Fin.ext e.symm
    · intro h
      rw [eq_ix1 (n := 98) (reduces_S98x64_S98.drop i)]
      exact congrArg (ix1 (n := 98)) (Fin.ext (e.trans (congrArg Fin.val h)))
  constructor
  · intro H j
    exact H _ (Finset.mem_filter.2 ⟨Finset.mem_univ _, (hd _).2 rfl⟩)
  · intro H i hi
    have := (hd i).1 (Finset.mem_filter.1 hi).2
    rw [eq_ix2 i, this]
    exact H _

/-! ## The ids' column -/

variable {F : FTy → Type} [FloatOps F]

/-- Whether position `p` of the block is inside the array. -/
def Valid (i : grid0.Coords) (p : ℕ) : Prop := p + (i 1).val * 6272 < 50000

instance (i : grid0.Coords) (p : ℕ) : Decidable (Valid i p) := by unfold Valid; infer_instance

/-- The id at position `p` of the block; 127, which is no label, past the array's end. -/
def idN (i : grid0.Coords) (X0 : IVec S1x1x6272 32) (p : Fin 6272) : ℕ :=
  if Valid i p.val then (X0 (ix3 0 0 p)).toNat else 127

/-- The block's ids inside the array are labels. -/
def IdsOK (i : grid0.Coords) (X0 : IVec S1x1x6272 32) : Prop :=
  ∀ p : Fin 6272, Valid i p.val → (X0 (ix3 0 0 p)).toNat < 64

theorem coord_lt (i : grid0.Coords) : (i 1).val < 8 := (i 1).isLt

omit [FloatOps F] in
/-- The mask is on inside the array. -/
theorem mask_apply (i : grid0.Coords) (p : Fin 6272) :
    k0_pay22 i (ix2 (n0 := 1) (n1 := 6272) 0 p) = 1#1 ↔ Valid i p.val := by
  have hp := p.isLt
  have hi := coord_lt i
  have e : k0_pay22 i (ix2 (n0 := 1) (n1 := 6272) 0 p)
      = BitVec.ofBool ((BitVec.ofNat 32 (0 * 6272 + p.val) + BitVec.ofNat 32 (i 1).val * 6272#32).slt 50000#32) := rfl
  rw [e, WordArith.ofBool_eq_one_iff, BitVec.slt_iff_toInt_lt]
  have h1 : (BitVec.ofNat 32 (0 * 6272 + p.val) + BitVec.ofNat 32 (i 1).val * 6272#32).toNat = p.val + (i 1).val * 6272 := by
    simp only [BitVec.toNat_add, BitVec.toNat_mul, BitVec.toNat_ofNat]
    omega
  rw [toInt_small (by rw [h1]; omega), h1]
  unfold Valid
  have h2 : (50000#32 : BitVec 32).toInt = 50000 := by decide
  rw [h2]
  omega

/-- A block's ids, before they are made a column, at a position. -/
theorem flat_apply (X0 : IVec S1x1x6272 32) (p : Fin 6272) :
    k0_pay21 (F := F) X0 (ix2 (n0 := 1) (n1 := 6272) 0 p) = X0 (ix3 0 0 p) := by
  refine congrArg X0 (Shape.reshapeEquiv_eq_of_rowMajor _ ?_)
  rw [Shape.rowMajor_val_three, Shape.rowMajor_val_two]
  rfl

/-- A chosen id: the array's, or the filler past its end. -/
theorem select_apply (i : grid0.Coords) (X0 : IVec S1x1x6272 32) (w : BitVec 32) (p : Fin 6272) :
    select (k0_pay22 i) (k0_pay21 (F := F) X0) (broadcast S1x6272 w) (ix2 (n0 := 1) (n1 := 6272) 0 p)
      = if Valid i p.val then X0 (ix3 0 0 p) else w := by
  show (if k0_pay22 i (ix2 (n0 := 1) (n1 := 6272) 0 p) = 1 then k0_pay21 (F := F) X0 (ix2 (n0 := 1) (n1 := 6272) 0 p) else w) = _
  rw [flat_apply]
  exact if_congr (mask_apply i p) rfl rfl

/-- The ids' column at a position. -/
theorem column_apply (i : grid0.Coords) (X0 : IVec S1x1x6272 32) (p : Fin 6272) :
    k0_pay24 (F := F) i X0 (ix2 (n0 := 6272) (n1 := 1) p 0) = if Valid i p.val then X0 (ix3 0 0 p) else 127#32 := by
  rw [← select_apply (F := F) i X0 127#32 p]
  refine congrArg (select (k0_pay22 i) (k0_pay21 (F := F) X0) (broadcast S1x6272 127#32)) ?_
  funext a
  fin_cases a <;> rfl

theorem column_toNat (i : grid0.Coords) (X0 : IVec S1x1x6272 32) (p : Fin 6272) :
    (k0_pay24 (F := F) i X0 (ix2 (n0 := 6272) (n1 := 1) p 0)).toNat = idN i X0 p := by
  rw [column_apply]
  unfold idN
  split <;> rfl

/-- The position of element `j` of chunk `q`. -/
def pos (q : Fin 98) (j : Fin 64) : Fin 6272 := ⟨q.val * 64 + j.val, by omega⟩

/-- The ids by chunks. -/
theorem chunked_apply (i : grid0.Coords) (X0 : IVec S1x1x6272 32) (q : Fin 98) (j : Fin 64) :
    k0_pay26 (F := F) i X0 (ix2 q j) = k0_pay24 (F := F) i X0 (ix2 (n0 := 6272) (n1 := 1) (pos q j) 0) := by
  refine congrArg (k0_pay24 (F := F) i X0) (Shape.reshapeEquiv_eq_of_rowMajor _ ?_)
  rw [Shape.rowMajor_val_two, Shape.rowMajor_val_two]
  show (q.val * 64 + j.val) * 1 + 0 = q.val * 64 + j.val
  omega

theorem idN_lt {i : grid0.Coords} {X0 : IVec S1x1x6272 32} (h : IdsOK i X0) (p : Fin 6272) : idN i X0 p < 128 := by
  unfold idN
  split
  · rename_i hv; have := h p hv; omega
  · omega

theorem chunked_toInt {i : grid0.Coords} {X0 : IVec S1x1x6272 32} (h : IdsOK i X0) (q : Fin 98) (j : Fin 64) :
    (k0_pay26 (F := F) i X0 (ix2 q j)).toInt = (idN i X0 (pos q j) : ℤ) := by
  have e : (k0_pay26 (F := F) i X0 (ix2 q j)).toNat = idN i X0 (pos q j) := by rw [chunked_apply, column_toNat]
  have := idN_lt h (pos q j)
  rw [toInt_small (by omega), e]

/-- A cast of a column of ninety-eight. -/
theorem cast98 {α : Type} (x : S98.Idx → α) (q : Fin 98) :
    shapeCast S98x1 x shapeCasts_S98_S98x1 (ix2 (n0 := 98) (n1 := 1) q 0) = x (ix1 q) := by
  refine congrArg x (Shape.reshapeEquiv_eq_of_rowMajor _ ?_)
  rw [Shape.rowMajor_val_one, Shape.rowMajor_val_two]
  show q.val = q.val * 1 + 0
  omega

/-- A row reduction as a fold. -/
theorem rowFold (kind : IKind) (x : IVec S98x64 32) (acc : BitVec 32) (hacc : acc = kind.neutral) (q : Fin 98) :
    multiReductionI kind [1] S98 x acc reduces_S98x64_S98 hacc (ix1 q)
      = (Finset.univ.filter fun x => reduces_S98x64_S98.drop x = (ix1 q : S98.Idx)).fold kind.op acc x :=
  multiReductionI_eq_fold kind x acc reduces_S98x64_S98 hacc (ix1 q)

/-- The reduction of a whole block as a fold. -/
theorem blockFold (kind : IKind) (x : IVec S1x1x6272 32) (acc : BitVec 32) (hacc : acc = kind.neutral) :
    extractAt ![0, 0, 0] (shapeCast S1x1x1 (multiReductionI kind [1, 2] S1 x acc reduces_S1x1x6272_S1 hacc) shapeCasts_S1_S1x1x1)
        inpos_S1x1x1_p0_0_0
      = (Finset.univ.filter fun x => reduces_S1x1x6272_S1.drop x = (ix1 0 : S1.Idx)).fold kind.op acc x := by
  refine Eq.trans ?_ (multiReductionI_eq_fold kind x acc reduces_S1x1x6272_S1 hacc (ix1 0 : S1.Idx))
  refine congrArg (multiReductionI kind [1, 2] S1 x acc reduces_S1x1x6272_S1 hacc) ?_
  funext a
  fin_cases a
  exact Subsingleton.elim (α := Fin 1) _ _

/-- A chunk's greatest id is at most a bound exactly when all its ids are. -/
theorem chunkMax_le {i : grid0.Coords} {X0 : IVec S1x1x6272 32} (h : IdsOK i X0) (q : Fin 98) (b : ℤ) (hb : -1 ≤ b) :
    (k0_pay28 (F := F) i X0 (ix2 (n0 := 98) (n1 := 1) q 0)).toInt ≤ b ↔ ∀ j : Fin 64, (idN i X0 (pos q j) : ℤ) ≤ b := by
  have e : k0_pay28 (F := F) i X0 (ix2 (n0 := 98) (n1 := 1) q 0)
      = (Finset.univ.filter fun x => reduces_S98x64_S98.drop x = (ix1 q : S98.Idx)).fold IntOp.maxsi 2147483648#32 (k0_pay26 (F := F) i X0) := by
    have e0 : k0_pay28 (F := F) i X0 = shapeCast S98x1 (multiReductionI .maxsi [1] S98 (k0_pay26 (F := F) i X0) 2147483648#32
      reduces_S98x64_S98 rfl) shapeCasts_S98_S98x1 := rfl
    rw [e0, cast98]
    exact rowFold .maxsi (k0_pay26 (F := F) i X0) 2147483648#32 rfl q
  rw [e, fold_le_iff IntOp.maxsi BitVec.toInt toInt_maxsi, row_fiber]
  have h0 : (2147483648#32 : BitVec 32).toInt ≤ b := le_trans (by decide) hb
  simp only [chunked_toInt h, h0, true_and]

/-- A chunk's least id is at least a bound exactly when all its ids are. -/
theorem le_chunkMin {i : grid0.Coords} {X0 : IVec S1x1x6272 32} (h : IdsOK i X0) (q : Fin 98) (b : ℤ) (hb : b ≤ 128) :
    b ≤ (k0_pay27 (F := F) i X0 (ix2 (n0 := 98) (n1 := 1) q 0)).toInt ↔ ∀ j : Fin 64, b ≤ (idN i X0 (pos q j) : ℤ) := by
  have e : k0_pay27 (F := F) i X0 (ix2 (n0 := 98) (n1 := 1) q 0)
      = (Finset.univ.filter fun x => reduces_S98x64_S98.drop x = (ix1 q : S98.Idx)).fold IntOp.minsi 2147483647#32 (k0_pay26 (F := F) i X0) := by
    have e0 : k0_pay27 (F := F) i X0 = shapeCast S98x1 (multiReductionI .minsi [1] S98 (k0_pay26 (F := F) i X0) 2147483647#32
      reduces_S98x64_S98 rfl) shapeCasts_S98_S98x1 := rfl
    rw [e0, cast98]
    exact rowFold .minsi (k0_pay26 (F := F) i X0) 2147483647#32 rfl q
  rw [← neg_le_neg_iff, e, fold_le_iff IntOp.minsi (fun w => -BitVec.toInt w) neg_toInt_minsi, row_fiber]
  have h0 : -(2147483647#32 : BitVec 32).toInt ≤ -b := by
    have : (2147483647#32 : BitVec 32).toInt = 2147483647 := by decide
    omega
  simp only [chunked_toInt h, h0, true_and, neg_le_neg_iff]

/-! ## The first and the greatest id -/

theorem loW_eq (X0 : IVec S1x1x6272 32) : loW (F := F) X0 = X0 (ix3 0 0 0) :=
  flat_apply (F := F) X0 0

theorem valid_zero (i : grid0.Coords) : Valid i 0 := by
  have := coord_lt i
  unfold Valid
  omega

/-- A cast of a row of ids to one more axis. -/
theorem castRow {α : Type} (x : S1x6272.Idx → α) (j : S1x1x6272.Idx) :
    shapeCast S1x1x6272 x shapeCasts_S1x6272_S1x1x6272 j = x (ix2 (n0 := 1) (n1 := 6272) 0 (j 2)) := by
  refine congrArg x (Shape.reshapeEquiv_eq_of_rowMajor _ ?_)
  rw [Shape.rowMajor_val_three, Shape.rowMajor_val_two]
  have h0 : (j 0).val < 1 := (j 0).isLt
  have h1 : (j 1).val < 1 := (j 1).isLt
  show 0 * 6272 + (j 2).val = ((j 0).val * 1 + (j 1).val) * 6272 + (j 2).val
  omega

/-- The greatest id is at most a bound exactly when every id inside the array is. -/
theorem hiW_le {i : grid0.Coords} {X0 : IVec S1x1x6272 32} (h : IdsOK i X0) (b : ℤ) (hb : -1 ≤ b) :
    (hiW (F := F) i X0).toInt ≤ b ↔ ∀ p : Fin 6272, Valid i p.val → ((X0 (ix3 0 0 p)).toNat : ℤ) ≤ b := by
  have e : hiW (F := F) i X0
      = (Finset.univ.filter fun x => reduces_S1x1x6272_S1.drop x = (ix1 0 : S1.Idx)).fold IntOp.maxsi 2147483648#32
        (shapeCast S1x1x6272 (select (k0_pay22 i) (k0_pay21 (F := F) X0) (broadcast S1x6272 4294967295#32)) shapeCasts_S1x6272_S1x1x6272) :=
    blockFold .maxsi _ 2147483648#32 rfl
  have h0 : (2147483648#32 : BitVec 32).toInt ≤ b := le_trans (by decide) hb
  rw [e, fold_le_iff IntOp.maxsi BitVec.toInt toInt_maxsi]
  simp only [h0, true_and]
  constructor
  · intro H p hv
    have := H (ix3 0 0 p) (Finset.mem_filter.2 ⟨Finset.mem_univ _, by
      funext a; fin_cases a; exact Subsingleton.elim (α := Fin 1) _ _⟩)
    rw [castRow, select_apply] at this
    change (if Valid i p.val then X0 (ix3 0 0 p) else 4294967295#32).toInt ≤ b at this
    rw [if_pos hv, toInt_small (by have := h p hv; omega)] at this
    exact this
  · intro H j _
    rw [castRow]
    refine le_of_eq_of_le (congrArg BitVec.toInt (select_apply (F := F) i X0 4294967295#32 (j 2))) ?_
    by_cases hv : Valid i (j 2).val
    · rw [if_pos hv, toInt_small (by have := h (j 2) hv; omega)]
      exact H (j 2) hv
    · rw [if_neg hv]
      exact le_trans (by decide) hb

/-! ## The counts -/

/-- A count over the chunks is the number of chunks the condition holds at. -/
theorem count_toNat (m : IVec S98x1 1) :
    (extractAt ![0, 0, 0] (shapeCast S1x1x1 (multiReductionI .add [1, 2] S1
      (shapeCast S1x98x1 (extui 32 m natLt_1_32) shapeCasts_S98x1_S1x98x1)
      0#32 reduces_S1x98x1_S1 rfl) shapeCasts_S1_S1x1x1) inpos_S1x1x1_p0_0_0).toNat
    = (Finset.univ.filter fun q : Fin 98 => m (ix2 (n0 := 98) (n1 := 1) q 0) = 1#1).card := by
  have e : ∀ x : IVec S1 32, extractAt ![0, 0, 0] (shapeCast S1x1x1 x shapeCasts_S1_S1x1x1) inpos_S1x1x1_p0_0_0 = x (ix1 0) := by
    intro x
    refine congrArg x ?_
    funext a
    fin_cases a
    exact Subsingleton.elim (α := Fin 1) _ _
  have hf : (Finset.univ.filter fun x => reduces_S1x98x1_S1.drop x = (ix1 0 : S1.Idx)) = Finset.univ := by
    refine Finset.filter_true_of_mem fun x _ => ?_
    funext a
    fin_cases a
    exact Subsingleton.elim (α := Fin 1) _ _
  have hv : ∀ q : Fin 98, (shapeCast S1x98x1 (extui 32 m natLt_1_32) shapeCasts_S98x1_S1x98x1 (ix3 0 q 0)).toNat
      = if m (ix2 (n0 := 98) (n1 := 1) q 0) = 1#1 then 1 else 0 := by
    intro q
    have e1 : shapeCast S1x98x1 (extui 32 m natLt_1_32) shapeCasts_S98x1_S1x98x1 (ix3 0 q 0)
        = (m (ix2 (n0 := 98) (n1 := 1) q 0)).zeroExtend 32 := by
      refine congrArg (extui 32 m natLt_1_32) (Shape.reshapeEquiv_eq_of_rowMajor _ ?_)
      rw [Shape.rowMajor_val_three, Shape.rowMajor_val_two]
      show q.val * 1 + 0 = (0 * 98 + q.val) * 1 + 0
      omega
    rw [e1]
    generalize m (ix2 (n0 := 98) (n1 := 1) q 0) = b
    revert b
    decide
  have hsum : ∑ x : S1x98x1.Idx, (shapeCast S1x98x1 (extui 32 m natLt_1_32) shapeCasts_S98x1_S1x98x1 x).toNat
      = (Finset.univ.filter fun q : Fin 98 => m (ix2 (n0 := 98) (n1 := 1) q 0) = 1#1).card := by
    rw [Finset.card_filter]
    refine (Fintype.sum_equiv (⟨fun q => ix3 0 q 0, fun x => x 1, fun _ => rfl, fun x => ?_⟩ : Fin 98 ≃ S1x98x1.Idx) _ _ fun q => ?_).symm
    · rw [eq_ix3 (n0 := 1) (n1 := 98) (n2 := 1) x]
      funext a
      fin_cases a
      · exact Subsingleton.elim (α := Fin 1) _ _
      · rfl
      · exact Subsingleton.elim (α := Fin 1) _ _
    · exact (hv q).symm
  have hc : (Finset.univ.filter fun q : Fin 98 => m (ix2 (n0 := 98) (n1 := 1) q 0) = 1#1).card ≤ 98 :=
    (Finset.card_le_univ _).trans (by simp)
  rw [e]
  exact (WordSum.toNat_multiReductionI_add _ reduces_S1x98x1_S1 rfl (ix1 0) (by rw [hf, hsum]; omega)).trans (by rw [hf, hsum])

/-- The first count: the chunks all of whose ids are below a label. -/
theorem cntLt_toNat {i : grid0.Coords} {X0 : IVec S1x1x6272 32} (h : IdsOK i X0) (s : ℕ) (hs : s < 128) :
    (cntLt (k0_pay28 (F := F) i X0) (wd s)).toNat
      = (Finset.univ.filter fun q : Fin 98 => ∀ j : Fin 64, idN i X0 (pos q j) < s).card := by
  refine (count_toNat _).trans (congrArg Finset.card (Finset.filter_congr fun q _ => ?_))
  have e : cmpi .slt (k0_pay28 (F := F) i X0) (broadcast S98x1 (wd s)) (ix2 (n0 := 98) (n1 := 1) q 0)
      = BitVec.ofBool ((k0_pay28 (F := F) i X0 (ix2 (n0 := 98) (n1 := 1) q 0)).slt (wd s)) := rfl
  have hw : (wd s).toInt = (s : ℤ) := by
    rw [toInt_small (by rw [toNat_wd] <;> omega), toNat_wd (by omega)]
  rw [e, WordArith.ofBool_eq_one_iff, BitVec.slt_iff_toInt_lt, hw, ← Int.le_sub_one_iff, chunkMax_le h q _ (by omega)]
  exact forall_congr' fun j => by omega

/-- The second count: the chunks with some id at most a label. -/
theorem cntLe_toNat {i : grid0.Coords} {X0 : IVec S1x1x6272 32} (h : IdsOK i X0) (s : ℕ) (hs : s < 128) :
    (cntLe (k0_pay27 (F := F) i X0) (wd s)).toNat
      = (Finset.univ.filter fun q : Fin 98 => ∃ j : Fin 64, idN i X0 (pos q j) ≤ s).card := by
  refine (count_toNat _).trans (congrArg Finset.card (Finset.filter_congr fun q _ => ?_))
  have e : cmpi .sle (k0_pay27 (F := F) i X0) (broadcast S98x1 (wd s)) (ix2 (n0 := 98) (n1 := 1) q 0)
      = BitVec.ofBool ((k0_pay27 (F := F) i X0 (ix2 (n0 := 98) (n1 := 1) q 0)).sle (wd s)) := rfl
  have hw : (wd s).toInt = (s : ℤ) := by
    rw [toInt_small (by rw [toNat_wd] <;> omega), toNat_wd (by omega)]
  rw [e, WordArith.ofBool_eq_one_iff, BitVec.sle_iff_toInt_le, hw, ← not_lt, ← Int.add_one_le_iff, le_chunkMin h q _ (by omega)]
  constructor
  · intro H
    by_contra hn
    exact H fun j => by
      have : ¬ idN i X0 (pos q j) ≤ s := fun hj => hn ⟨j, hj⟩
      omega
  · rintro ⟨j, hj⟩ H
    have := H j
    omega

/-- The last chunk's number, from the count. -/
theorem last_toNat (w : BitVec 32) (h : 1 ≤ w.toNat) : (Scalar.subi w 1#32).toNat = w.toNat - 1 := by
  show (w - 1#32).toNat = _
  have := w.isLt
  rw [BitVec.toNat_sub]
  simp only [BitVec.toNat_ofNat]
  omega

/-! ## A block of labels in range runs -/

theorem hi_bounds {i : grid0.Coords} {X0 : IVec S1x1x6272 32} (h : IdsOK i X0) :
    (hiW (F := F) i X0).toInt = ((hiW (F := F) i X0).toNat : ℤ) ∧ (loW (F := F) X0).toNat ≤ (hiW (F := F) i X0).toNat
      ∧ (hiW (F := F) i X0).toNat < 64 := by
  have h1 : (hiW (F := F) i X0).toInt ≤ 63 := (hiW_le h 63 (by omega)).2 fun p hv => by have := h p hv; omega
  have h0 : ((X0 (ix3 0 0 0)).toNat : ℤ) ≤ (hiW (F := F) i X0).toInt := by
    by_contra hn
    have h2 := (hiW_le (F := F) h (((X0 (ix3 0 0 0)).toNat : ℤ) - 1) (by omega)).1 (by omega) 0 (valid_zero i)
    omega
  have e : (hiW (F := F) i X0).toInt = ((hiW (F := F) i X0).toNat : ℤ) := by
    rw [BitVec.toInt_eq_toNat_cond] at h0 ⊢
    split
    · rfl
    · rename_i hc
      rw [if_neg hc] at h0
      have := (hiW (F := F) i X0).isLt
      omega
  rw [loW_eq]
  exact ⟨e, by omega, by omega⟩

/-- Some id inside the array is at least any label up to the greatest id. -/
theorem exists_ge {i : grid0.Coords} {X0 : IVec S1x1x6272 32} (h : IdsOK i X0) (s : ℕ) (hs : s ≤ (hiW (F := F) i X0).toNat) :
    ∃ q : Fin 98, ∃ j : Fin 64, s ≤ idN i X0 (pos q j) := by
  by_contra hn
  have hb := hi_bounds (F := F) h
  have hc := (hiW_le (F := F) h ((s : ℤ) - 1) (by omega)).2 fun p hv => by
    have hp := p.isLt
    have : ¬ s ≤ idN i X0 (pos ⟨p.val / 64, by omega⟩ ⟨p.val % 64, by omega⟩) := fun H => hn ⟨_, _, H⟩
    have ep : pos ⟨p.val / 64, by omega⟩ ⟨p.val % 64, by omega⟩ = p := Fin.ext (by
      show p.val / 64 * 64 + p.val % 64 = p.val; omega)
    rw [ep] at this
    unfold idN at this
    rw [if_pos hv] at this
    omega
  omega

theorem cntLt_le {i : grid0.Coords} {X0 : IVec S1x1x6272 32} (h : IdsOK i X0) (s : ℕ) (hs : s ≤ (hiW (F := F) i X0).toNat) :
    (cntLt (k0_pay28 (F := F) i X0) (wd s)).toNat ≤ 97 := by
  have hb := hi_bounds (F := F) h
  rw [cntLt_toNat h s (by omega)]
  obtain ⟨q, j, hq⟩ := exists_ge h s hs
  have hlt := Finset.card_lt_card (Finset.ssubset_univ_iff.2 (fun H => by
    have := (Finset.mem_filter.1 (H.symm ▸ Finset.mem_univ q : q ∈ Finset.univ.filter fun q : Fin 98 => ∀ j : Fin 64, idN i X0 (pos q j) < s)).2 j
    omega) : (Finset.univ.filter fun q : Fin 98 => ∀ j : Fin 64, idN i X0 (pos q j) < s) ⊂ Finset.univ)
  rw [Finset.card_univ, Fintype.card_fin] at hlt
  omega

theorem cntLe_bounds {i : grid0.Coords} {X0 : IVec S1x1x6272 32} (h : IdsOK i X0) (s : ℕ) (hl : (loW (F := F) X0).toNat ≤ s) (hs : s < 64) :
    1 ≤ (cntLe (k0_pay27 (F := F) i X0) (wd s)).toNat ∧ (cntLe (k0_pay27 (F := F) i X0) (wd s)).toNat ≤ 98 := by
  rw [cntLe_toNat h s (by omega)]
  constructor
  · refine Finset.card_pos.2 ⟨0, Finset.mem_filter.2 ⟨Finset.mem_univ _, 0, ?_⟩⟩
    have e0 : pos 0 0 = 0 := rfl
    rw [e0]
    unfold idN
    refine (if_pos (valid_zero i)).trans_le ?_
    rw [← loW_eq (F := F) X0]
    exact hl
  · exact (Finset.card_le_univ _).trans (by simp)

/-- A block whose ids inside the array are labels runs. -/
theorem blockOK {i : grid0.Coords} {X0 : IVec S1x1x6272 32} (h : IdsOK i X0) : BlockOK F i X0 where
  le := (hi_bounds h).2.1
  lt := (hi_bounds h).2.2
  chunks := fun s hl hs => by
    have hb := hi_bounds (F := F) h
    have hc := cntLe_bounds (F := F) h s hl (by omega)
    refine ⟨cntLt_le h s hs, ?_⟩
    rw [last_toNat _ hc.1]
    omega

end Cert.Proof.Ids

end
-- ==== Proof.Blocks.lean ====
/-
  What the two fetched blocks of a grid point hold: entry for entry the ids' and the features' array, on the
  positions that lie inside it.
-/
module

public import proofs.«01_k».proof.Proof.Gen.KernelIdeal.Frame
public import proofs.«01_k».proof.Proof.Ids
public import Idealize.ShloMosaic.Lib.Pipeline.ValueKit.Geometry
public import Idealize.ShloMosaic.Lib.Decide

@[expose] public section

noncomputable section

namespace Cert.Proof.Blocks

open Idealize.ShloMosaic Idealize.ShloMosaic.TcCoe Idealize.ShloMosaic.Pipeline
open Cert.KernelIdeal Cert.KernelIdeal.Gen Cert.Proof.Ids
open Idealize.ShloMosaic.ValueIdx

variable {F : FTy → Type} [FloatOps F]

/-- The batch a point works on. -/
theorem coord_zero : ∀ t : Fin cfg0.N, (grid0.coords t 0).val = t.val / 8 :=
  (by decide +kernel : ∀ t : Fin grid0.N, (grid0.coords t 0).val = t.val / 8)

/-- The block of positions a point works on. -/
theorem coord_one : ∀ t : Fin cfg0.N, (grid0.coords t 1).val = t.val % 8 :=
  (by decide +kernel : ∀ t : Fin grid0.N, (grid0.coords t 1).val = t.val % 8)

/-- Where the ids' block starts. -/
theorem index_ids : ∀ t : Fin cfg0.N, win0_0.index t = ![t.val / 8, 0, t.val % 8] :=
  (by decide +kernel : ∀ t : Fin grid0.N, win0_0.index t = ![t.val / 8, 0, t.val % 8])

/-- How much of the ids' block lies inside the array. -/
theorem size_ids : ∀ t : Fin cfg0.N, win0_0.xsize (grid0.coords t) = ![1, 1, min 6272 (50000 - t.val % 8 * 6272)] :=
  (by decide +kernel : ∀ t : Fin grid0.N, win0_0.xsize (grid0.coords t) = ![1, 1, min 6272 (50000 - t.val % 8 * 6272)])

/-- Where the features' block starts. -/
theorem index_feats : ∀ t : Fin cfg0.N, win0_1.index t = ![t.val / 8, 0, t.val % 8] :=
  (by decide +kernel : ∀ t : Fin grid0.N, win0_1.index t = ![t.val / 8, 0, t.val % 8])

/-- How much of the features' block lies inside the array. -/
theorem size_feats : ∀ t : Fin cfg0.N, win0_1.xsize (grid0.coords t) = ![1, 128, min 6272 (50000 - t.val % 8 * 6272)] :=
  (by decide +kernel : ∀ t : Fin grid0.N, win0_1.xsize (grid0.coords t) = ![1, 128, min 6272 (50000 - t.val % 8 * 6272)])

theorem batch_lt (t : Fin cfg0.N) : t.val / 8 < 8 := by
  have : t.val < 64 := lt_of_lt_of_eq t.isLt N_0
  omega

theorem valid_iff (t : Fin cfg0.N) (p : ℕ) : Valid (grid0.coords t) p ↔ t.val % 8 * 6272 + p < 50000 := by
  unfold Valid
  rw [coord_one]
  omega

/-- The fetched ids at a position inside the array. -/
theorem ids_at (A : S8x1x50000.Idx → Elt F .i32) (t : Fin cfg0.N) (d : S1x1x6272.Idx → Elt F .i32) (p : Fin 6272)
    (hp : t.val % 8 * 6272 + p.val < 50000) :
    (win0_0.fill (grid0.coords t) d ((win0_0.blk t).view.read (Elt F) A) : S1x1x6272.Idx → Elt F .i32) (ix3 0 0 p)
      = A (ix3 ⟨t.val / 8, batch_lt t⟩ 0 ⟨t.val % 8 * 6272 + p.val, hp⟩) := by
  have hm : win0_0.moved (grid0.coords t) (ix3 0 0 p : S1x1x6272.Idx) = true := by
    rw [Window.moved_iff, size_ids]
    have := p.isLt
    intro a
    fin_cases a
    · exact Nat.one_pos
    · exact Nat.one_pos
    · show p.val < min 6272 (50000 - t.val % 8 * 6272)
      omega
  unfold Window.fill
  rw [dif_pos hm]
  refine congrArg A (funext fun a => Fin.ext ?_)
  refine (ValueKit.view_emb_slice_whole_unit_val main_v0 _ _ _ _ a).trans ?_
  have e : ∀ b, win0_0.index t b = _ := fun b => congrFun (index_ids t) b
  refine (congrArg (fun k => k * _ + _) (e a)).trans ?_
  fin_cases a
  · show t.val / 8 * 1 + 0 = t.val / 8
    omega
  · rfl
  · rfl

/-- The fetched features at a position inside the array. -/
theorem feats_at (A : S8x128x50000.Idx → Elt F .f32) (t : Fin cfg0.N) (d : S1x128x6272.Idx → Elt F .f32) (ch : Fin 128)
    (p : Fin 6272) (hp : t.val % 8 * 6272 + p.val < 50000) :
    (win0_1.fill (grid0.coords t) d ((win0_1.blk t).view.read (Elt F) A) : S1x128x6272.Idx → Elt F .f32) (ix3 0 ch p)
      = A (ix3 ⟨t.val / 8, batch_lt t⟩ ch ⟨t.val % 8 * 6272 + p.val, hp⟩) := by
  have hm : win0_1.moved (grid0.coords t) (ix3 0 ch p : S1x128x6272.Idx) = true := by
    rw [Window.moved_iff, size_feats]
    have := p.isLt
    intro a
    fin_cases a
    · exact Nat.one_pos
    · exact ch.isLt
    · show p.val < min 6272 (50000 - t.val % 8 * 6272)
      omega
  unfold Window.fill
  rw [dif_pos hm]
  refine congrArg A (funext fun a => Fin.ext ?_)
  refine (ValueKit.view_emb_slice_whole_unit_val main_arg0 _ _ _ _ a).trans ?_
  have e : ∀ b, win0_1.index t b = _ := fun b => congrFun (index_feats t) b
  refine (congrArg (fun k => k * _ + _) (e a)).trans ?_
  fin_cases a
  · show t.val / 8 * 1 + 0 = t.val / 8
    omega
  · show 0 * 128 + ch.val = ch.val
    omega
  · rfl

/-- The ids the region reads, in terms of the argument. -/
theorem V_ids (m : (ℓ : Loc nD τ sig) → Buf (Elt F) ℓ) (c : Dev nD) (b : Fin 8) (n : Fin 50000) :
    (V m c main_v0 : S8x1x50000.Idx → Elt F .i32) (ix3 b 0 n) = (m ((c : Thread nD τ).loc main_arg1) : S8x50000.Idx → Elt F .i32) (ix2 b n) := by
  have e : V m c main_v0 = shapeCast S8x1x50000 (m ((c : Thread nD τ).loc main_arg1) : S8x50000.Idx → Elt F .i32)
      shapeCasts_S8x50000_S8x1x50000 := by
    show StableHlo.after [_] _ _ = _
    rw [StableHlo.after_cons, StableHlo.after_nil, StableHlo.reshape_result']
    rfl
  rw [e]
  refine shapeCast_apply (s := S8x50000) _ _ _ _ ?_
  rw [Shape.rowMajor_val_three, Shape.rowMajor_val_two]
  show b.val * 50000 + n.val = (b.val * 1 + 0) * 50000 + n.val
  omega

end Cert.Proof.Blocks

end

end
-- ==== Proof.Launch.lean ====
/-
  The launch of the region at any float values: from labels in range it runs to its end, nothing faults, and every
  argument array is left as it was.
-/
module

public import proofs.«01_k».proof.Proof.Blocks

@[expose] public section

noncomputable section

namespace Cert.Proof.Launch

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)
open Cert.Proof.Words Cert.Proof.Rows Cert.Proof.Trip Cert.Proof.Body Cert.Proof.Ids Cert.Proof.Blocks

variable {F : FTy → Type} [FloatOps F]

local notation "𝕄" => MT nD τ sig Unit (Elt F) ℕ (UR sig nD τ) ℕ

variable (m : (ℓ : Loc nD τ sig) → Buf (Elt F) ℓ)

/-- The id of one point of the argument, as a word. -/
abbrev idAt (c : Dev nD) (b : Fin 8) (n : Fin 50000) : BitVec 32 :=
  (m ((c : Thread nD τ).loc main_arg1) : S8x50000.Idx → BitVec 32) (ix2 b n)

/-- Every id is a label. -/
def Labels : Prop := ∀ (c : Dev nD) (b : Fin 8) (n : Fin 50000), (idAt m c b n).toNat < 64

/-- The ids' staging buffer after a fetch at `t`, what it held past the array's end being `d`. -/
def idsBuf (c : Dev nD) (t : Fin cfg0.N) (d : S1x1x6272.Idx → Elt F .i32) : S1x1x6272.Idx → Elt F .i32 :=
  win0_0.fill (grid0.coords t) d (iblk m c 0 t)

/-- The features' staging buffer after a fetch at `t`, what it held past the array's end being `d`. -/
def featsBuf (c : Dev nD) (t : Fin cfg0.N) (d : S1x128x6272.Idx → Elt F .f32) : S1x128x6272.Idx → Elt F .f32 :=
  win0_1.fill (grid0.coords t) d (iblk m c 1 t)

theorem idsBuf_at (c : Dev nD) (t : Fin cfg0.N) (d) (p : Fin 6272) (hp : t.val % 8 * 6272 + p.val < 50000) :
    idsBuf m c t d (ix3 0 0 p) = idAt m c ⟨t.val / 8, batch_lt t⟩ ⟨t.val % 8 * 6272 + p.val, hp⟩ :=
  (ids_at _ t d p hp).trans (V_ids m c _ _)

theorem featsBuf_at (c : Dev nD) (t : Fin cfg0.N) (d) (ch : Fin 128) (p : Fin 6272) (hp : t.val % 8 * 6272 + p.val < 50000) :
    featsBuf m c t d (ix3 0 ch p)
      = (m ((c : Thread nD τ).loc main_arg0) : S8x128x50000.Idx → Elt F .f32) (ix3 ⟨t.val / 8, batch_lt t⟩ ch ⟨t.val % 8 * 6272 + p.val, hp⟩) :=
  (feats_at _ t d ch p hp).trans (congrFun (V_main_arg0 m c) _)

theorem idsOK (hl : Labels m) (c : Dev nD) (t : Fin cfg0.N) (d) : IdsOK (grid0.coords t) (idsBuf m c t d) := by
  intro p hp
  rw [idsBuf_at m c t d p ((valid_iff t p.val).1 hp)]
  exact hl c _ _

/-- The proof data of the region, given what the body leaves of the two results at each point. -/
def dats (R2 : Dev nD → Fin cfg0.N → S64x128.Idx → Elt F .f32) (R3 : Dev nD → Fin cfg0.N → S1x6272x128.Idx → Elt F .f32)
    (_ : Fin 1) (c : Dev nD) : Dat τ (Elt F) Unit ℕ (UR sig nD τ) ℕ cfg0 c where
  A w := V m c (Pipeline.arrRef spec0 w)
  after w t := match w with
    | ⟨0, _⟩ => idsBuf m c t fun _ => 0#32
    | ⟨1, _⟩ => featsBuf m c t fun _ => Scalar.ofBits .f32 0#32
    | ⟨2, _⟩ => R2 c t
    | ⟨3, _⟩ => R3 c t
  Φ _ := Pipeline.ΦA spec0 c
  q _ := fullShare
  owed _ := 0

variable (R2 : Dev nD → Fin cfg0.N → S64x128.Idx → Elt F .f32) (R3 : Dev nD → Fin cfg0.N → S1x6272x128.Idx → Elt F .f32)

theorem before_ids (c : Dev nD) (t : Fin cfg0.N) (d) : (dats m R2 R3 0 c).before (0 : Fin 4) t d = idsBuf m c t d := by
  unfold Dat.before; rw [if_pos (fetch0_0 t)]; rfl

theorem before_feats (c : Dev nD) (t : Fin cfg0.N) (d) : (dats m R2 R3 0 c).before (1 : Fin 4) t d = featsBuf m c t d := by
  unfold Dat.before; rw [if_pos (fetch0_1 t)]; rfl

theorem bodyAt (t : Fin cfg0.N) : defs₀ (F := F) .tc cfg0.body (cfg0.bodyArgs t (cfg0.slots t)) = bodyAt0 t := by
  unfold defs₀; rw [Defs.onTc_tc]

/-- The scratch, out of the region's invariant. -/
theorem inv_eq (c : Dev nD) : (Pipeline.ΦA spec0 c : sProp 𝕄)
    = iprop((∃ f : Buf (Elt F) ((c : Thread nD τ).loc cc0_scratch0), ((c : Thread nD τ).loc cc0_scratch0) ↦{fullShare} f) ∗ ∃ r, prngReg c r) := by
  unfold Pipeline.ΦA; rw [scopedRest0_eq]

/-- The ids' buffer is handed back as it was found. -/
theorem back_ids (c : Dev nD) (t : Fin cfg0.N) (d) :
    win0_0.fill (grid0.coords t) d (win0_0.cut (grid0.coords t) (idsBuf m c t fun _ => 0#32)) = idsBuf m c t d :=
  congrArg (win0_0.fill (grid0.coords t) d) (win0_0.cut_fill _ _ _)

/-- The features' buffer is handed back as it was found. -/
theorem back_feats (c : Dev nD) (t : Fin cfg0.N) (d) :
    win0_1.fill (grid0.coords t) d (win0_1.cut (grid0.coords t) (featsBuf m c t fun _ => Scalar.ofBits .f32 0#32)) = featsBuf m c t d :=
  congrArg (win0_1.fill (grid0.coords t) d) (win0_1.cut_fill _ _ _)

/-- The two results' windows, of which the frame says nothing. -/
def results : Fin 4 → Bool := fun w => match w with
  | ⟨0, _⟩ => false
  | ⟨1, _⟩ => false
  | ⟨2, _⟩ => true
  | ⟨3, _⟩ => true

/-- Each point's body runs, whatever the results' buffers hold. -/
theorem points (hl : Labels m) (c : Dev nD) :
    BodyObligationLoose (dats m R2 R3 0 c) (defs₀ (F := F)) 𝒱₀ () Set.univ results := fun t => by
  rw [bigSep_W0, bigSep_W0, bodyAt]
  simp only [results]
  rw [show (dats m R2 R3 0 c).Φ t.succ = Pipeline.ΦA spec0 c from rfl, show (dats m R2 R3 0 c).Φ t.castSucc = Pipeline.ΦA spec0 c from rfl,
    show (dats m R2 R3 0 c).owesAt () t.succ = (dats m R2 R3 0 c).owesAt () t.castSucc from rfl, inv_eq]
  iintro ⟨⟨⟨%f6, H6⟩, Hr⟩, Ho, ⟨%d0, H0⟩, ⟨%d1, H1⟩, ⟨%Y2, H2⟩, ⟨%Y3, H3⟩⟩
  rw [before_ids m R2 R3 c t d0, before_feats m R2 R3 c t d1]
  iapply (body (F := F) c (grid0.coords t) _ _ _ _ _ _ _ _ (Memref.whole cc0_scratch0) _ (idsBuf m c t d0) (featsBuf m c t d1) Y2 Y3
    (blockOK (idsOK m hl c t d0)) f6 _)
  isplitl [H0 H1 H2 H3 H6]
  · isplitl [H0]; · iexact H0
    isplitl [H1]; · iexact H1
    isplitl [H2]; · iexact H2
    isplitl [H3]; · iexact H3
    rw [View.set_whole]
    iexact H6
  iintro ⟨H0, H1, H2, H3, ⟨%f6', H6⟩⟩
  isplitl [H6 Hr]
  · isplitl [H6]
    · iexists f6'
      rw [View.set_whole]
      iexact H6
    · iexact Hr
  isplitl [Ho]; · iexact Ho
  isplitl [H0]
  · iexists d0
    change _ ⊢ owns (c : Thread nD τ) (win0_0.stage (cfg0.slots t 0)) fullShare (win0_0.fill (grid0.coords t) d0 (win0_0.cut (grid0.coords t) (idsBuf m c t fun _ => 0#32)))
    rw [back_ids]
  isplitl [H1]
  · iexists d1
    change _ ⊢ owns (c : Thread nD τ) (win0_1.stage (cfg0.slots t 1)) fullShare (win0_1.fill (grid0.coords t) d1 (win0_1.cut (grid0.coords t) (featsBuf m c t fun _ => Scalar.ofBits .f32 0#32)))
    rw [back_feats]
  isplitl [H2]
  · iexists _; iexact H2
  · iexists _; iexact H3

/-- The line after the region writes the flattened features alone. -/
theorem tail_writes : ∀ ops ∈ ([hostOps1] : List (List (HloOp τ sig (Elt F)))), ∀ op ∈ ops, ∀ b : Ref sig .tc,
    Proc.devRef .tc b ∈ op.writes → b ∈ ({main_v2} : Finset (Ref sig .tc)) := by
  intro ops hops op hop b hb
  rw [List.mem_singleton.1 hops] at hop
  rw [List.mem_singleton.1 hop, StableHlo.reshape_writes, Finset.mem_singleton] at hb
  exact Finset.mem_singleton.2 (Proc.devRef_injective _ hb)

/-- The frame: from labels, every run ends, with the arguments as they were and no counter raised. -/
theorem frame_run (g : Dev nD → PrngReg) (hl : Labels m) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  let D := dats m (fun _ _ _ => Scalar.ofBits .f32 0#32) (fun _ _ _ => Scalar.ofBits .f32 0#32)
  Pipeline.θ_run_frame_around_T_forget cfgs D 0 launch0 defs₀ 𝒱₀ results {main_v2} m g main
    (fun c => points m _ _ hl c) (fun c => (D 0 c).share_full fun _ => rfl) (fun _ _ => rfl) (V0 m) [hostOps1]
    sfx_sub sfx_fresh sfx_keeps tail_writes (hmain m 𝒱₀) (fun _ _ => rfl) (fun _ _ => rfl) _
    (fun r h => ⟨fun c =>
      ⟨(Pipeline.RDat.FramePostR.arr_in h.1 c 1 rfl).trans (V_main_arg0 m c),
        ((h.1 c).2 main_arg1 (Finset.mem_sdiff.2 ⟨Pipeline.mem_restRefs_of main_arg1 (by decide) (by decide), by decide⟩)).trans (V_main_arg1 m c),
        ((h.1 c).2 main_arg2 (Finset.mem_sdiff.2 ⟨Pipeline.mem_restRefs_of main_arg2 (by decide) (by decide), by decide⟩)).trans (V_main_arg2 m c)⟩,
      h.2⟩)

end Cert.Proof.Launch

end

end
-- ==== Proof.Given.lean ====
/-
  The two preconditions, read as facts about the ids: every id is a label, and the ids of a batch ascend.
-/
module

public import proofs.«01_k».proof.Defs
public import proofs.«01_k».proof.Proof.Gen.Pre_labels_in_range
public import proofs.«01_k».proof.Proof.Gen.Pre_labels_sorted
public import proofs.«01_k».proof.Proof.Launch

@[expose] public section

noncomputable section

namespace Cert.Proof.Given

open Cert.KernelIdeal Cert.KernelIdeal.Gen
open Idealize.ShloMosaic Idealize.ShloMosaic.TcCoe Idealize.ShloMosaic.ValueIdx
open Cert.Proof.Launch Cert.Proof.Ids

variable {F : FTy → Type} [FloatOps F]

theorem and_one {a b : BitVec 1} (h : a &&& b = 1#1) : a = 1#1 ∧ b = 1#1 := by
  revert a b; decide

/-- A signed comparison that answers yes. -/
theorem sge_zero {w : BitVec 32} (h : IntOp.cmpi .sge w 0#32 = 1#1) : 0 ≤ w.toInt := by
  have := (WordArith.ofBool_eq_one_iff _).1 h
  simpa using BitVec.sle_iff_toInt_le.1 this

theorem slt_of {v w : BitVec 32} (h : IntOp.cmpi .slt v w = 1#1) : v.toInt < w.toInt :=
  BitVec.slt_iff_toInt_lt.1 ((WordArith.ofBool_eq_one_iff _).1 h)

theorem sle_of {v w : BitVec 32} (h : IntOp.cmpi .sle v w = 1#1) : v.toInt ≤ w.toInt :=
  BitVec.sle_iff_toInt_le.1 ((WordArith.ofBool_eq_one_iff _).1 h)

/-- A word whose signed value lies among the labels is that label. -/
theorem label_of {w : BitVec 32} (h0 : 0 ≤ w.toInt) (h1 : w.toInt < 64) : w.toNat < 64 ∧ w.toInt = w.toNat := by
  have := w.isLt
  rw [BitVec.toInt_eq_toNat_cond] at h0 h1 ⊢
  split at h0 <;> rename_i hc
  · rw [if_pos hc] at h1 ⊢
    omega
  · omega

variable (m : (ℓ : Loc nD τ sig) → Buf (Elt F) ℓ)

theorem labels_of_range
    (h : ∀ c : Dev nD, Cert.Pre_labels_in_range.fn (F := F) (m ((c : Thread nD τ).loc main_arg0)) (m ((c : Thread nD τ).loc main_arg1))
      (m ((c : Thread nD τ).loc main_arg2)) = fun _ => 1#1) : Labels m := by
  intro c b n
  obtain ⟨h0, h1⟩ := and_one (congrFun (h c) (ix2 b n))
  exact (label_of (sge_zero h0) (slt_of h1)).1

/-- The ids of every batch ascend. -/
def Ascending : Prop := ∀ (c : Dev nD) (b : Fin 8) (n n' : Fin 50000), n.val ≤ n'.val → (idAt m c b n).toNat ≤ (idAt m c b n').toNat

variable (h : ∀ c : Dev nD, Cert.Pre_labels_sorted.fn (F := F) (m ((c : Thread nD τ).loc main_arg0)) (m ((c : Thread nD τ).loc main_arg1))
      (m ((c : Thread nD τ).loc main_arg2)) = fun _ => 1#1)
include h

/-- What the precondition says of two neighbours. -/
theorem neighbours (c : Dev nD) (b : Fin 8) (n : ℕ) (hn : n + 1 < 50000) :
    0 ≤ (idAt m c b ⟨n, by omega⟩).toInt ∧ (idAt m c b ⟨n, by omega⟩).toInt ≤ (idAt m c b ⟨n + 1, hn⟩).toInt
      ∧ (idAt m c b ⟨n + 1, hn⟩).toInt < 64 := by
  obtain ⟨h01, h2⟩ := and_one (congrFun (h c) (ix2 b (⟨n, by omega⟩ : Fin 49999)))
  obtain ⟨h0, h1⟩ := and_one h01
  have e0 : extractStridedSlice Cert.Pre_labels_sorted.S8x49999 ![0, 0] (m ((c : Thread nD τ).loc main_arg1) : S8x50000.Idx → BitVec 32)
      Cert.Pre_labels_sorted.Facts.slices_S8x50000_S8x49999_0_0 (ix2 b (⟨n, by omega⟩ : Fin 49999)) = idAt m c b ⟨n, by omega⟩ :=
    extractStridedSlice_apply _ _ _ _ _ (fun a => by fin_cases a <;> simp [ix2])
  have e1 : extractStridedSlice Cert.Pre_labels_sorted.S8x49999 ![0, 1] (m ((c : Thread nD τ).loc main_arg1) : S8x50000.Idx → BitVec 32)
      Cert.Pre_labels_sorted.Facts.slices_S8x50000_S8x49999_0_1 (ix2 b (⟨n, by omega⟩ : Fin 49999)) = idAt m c b ⟨n + 1, hn⟩ :=
    extractStridedSlice_apply _ _ _ _ _ (fun a => by fin_cases a <;> simp [ix2] <;> omega)
  rw [← e0, ← e1]
  exact ⟨sge_zero h1, sle_of h0, slt_of h2⟩

theorem labels_of_sorted : Labels m := by
  intro c b n
  by_cases hn : n.val + 1 < 50000
  · obtain ⟨h0, h1, h2⟩ := neighbours m h c b n.val hn
    exact (label_of h0 (h1.trans_lt h2)).1
  · obtain ⟨h0, h1, h2⟩ := neighbours m h c b 49998 (by omega)
    have e : n = ⟨49998 + 1, by omega⟩ := Fin.ext (by have := n.isLt; show n.val = 49999; omega)
    rw [e]
    exact (label_of (h0.trans h1) h2).1

theorem ascending_of_sorted : Ascending m := by
  intro c b n n' hnn
  obtain ⟨n', hn'⟩ := n'
  induction n' with
  | zero =>
    have e : n = ⟨0, hn'⟩ := Fin.ext (Nat.le_zero.1 hnn)
    rw [e]
  | succ k ih =>
    rcases Nat.lt_or_ge k n.val with hk | hk
    · have e : n = ⟨k + 1, hn'⟩ := Fin.ext (le_antisymm hnn hk)
      rw [e]
    · refine (ih (by omega) hk).trans ?_
      obtain ⟨h0, h1, h2⟩ := neighbours m h c b k hn'
      have e0 := (label_of h0 (h1.trans_lt h2)).2
      have e1 := (label_of (h0.trans h1) h2).2
      omega

end Cert.Proof.Given

end

end
-- ==== Proof.Printed.lean ====
/-
  The kernel as printed and the kernel read over exact floats are one program text: what is proved of the second at
  every float model is had for the first at its own.
-/
module

public import proofs.«01_k».proof.Defs
public import proofs.«01_k».proof.Proof.Gen.Kernel
public import proofs.«01_k».proof.Proof.Given

@[expose] public section

noncomputable section

namespace Cert.Proof.Printed

open Idealize.ShloMosaic Idealize.ShloMosaic.TcCoe
open Cert.Proof.Launch Cert.Proof.Given

variable {F : FTy → Type} [FloatOps F]

theorem bodies_eq : Cert.Kernel.defs₀ (F := F) = Cert.KernelIdeal.defs₀ (F := F) := by
  unfold Cert.Kernel.defs₀ Cert.KernelIdeal.defs₀
  congr 1
  funext l a
  match l, a with
  | 0, (t, s) => rfl

theorem defs_eq : Cert.Kernel.defs (F := F) = Cert.KernelIdeal.defs (F := F) := by
  unfold Cert.Kernel.defs Cert.KernelIdeal.defs
  exact congrArg (Pipeline.defs Cert.KernelIdeal.pcfgs) bodies_eq

theorem kernel_frame : Cert.quiescent_Kernel := by
  intro m g hm
  have h := frame_run (F := Bits) m g (labels_of_range (F := Bits) m hm)
  rw [← defs_eq] at h
  exact h

theorem ideal_frame : Cert.quiescent_KernelIdeal :=
  fun m g hm => frame_run (F := Ideal) m g (labels_of_range (F := Ideal) m hm)

theorem ideal_frame_sorted : Cert.quiescent_KernelIdeal_pre_labels_sorted :=
  fun m g hm => frame_run (F := Ideal) m g (labels_of_sorted (F := Ideal) m hm)

end Cert.Proof.Printed

end

end
-- ==== Proof.Ref.lean ====
/-
  The reference runs to its end, with its arguments as they were and no counter raised.
-/
module

public import proofs.«01_k».proof.Defs
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_labels_in_range
public import proofs.«01_k».proof.Proof.Gen.Pre_labels_sorted

@[expose] public section

noncomputable section

namespace Cert.Proof.Ref

open Cert.ReferenceIdeal Cert.ReferenceIdeal.Gen
open Idealize.ShloMosaic Idealize.ShloMosaic.TcCoe
open Idealize.SL.Sem

/-- The reference has no semaphore, so every counter reads zero. -/
theorem counters (f : Idealize.ShloMosaic.Thread nD τ × SemLoc sig → Int) : f = fun _ => 0 := by
  funext g
  obtain ⟨_, s | s⟩ := g <;> exact s.elim0

theorem frame_run (m : (ℓ : Loc nD τ sig) → Buf (Elt Ideal) ℓ) (g : Dev nD → PrngReg) :
    θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run _ _ _).mono (fun _ h => ⟨fun c => (h c).2.2, counters _⟩) (Value.run m g)

theorem frame : Cert.quiescent_ReferenceIdeal := fun m g _ => frame_run m g

theorem frame_sorted : Cert.quiescent_ReferenceIdeal_pre_labels_sorted := fun m g _ => frame_run m g

end Cert.Proof.Ref

end

end
-- ==== Proof.RowMax.lean ====
/-
  One label's row over the extended reals: the row becomes the greatest of itself, of the label's features in its
  first and in its last chunk, and of the maxima of the chunks strictly between.
-/
module

public import proofs.«01_k».proof.Proof.Ids
public import Idealize.ShloMosaic.PureOps.Ideal.Laws
public import Idealize.ShloMosaic.Lib.ValueLayout
public import Idealize.ShloMosaic.Lib.Pipeline.Value

@[expose] public section

noncomputable section

namespace Cert.Proof.RowMax

open Cert.KernelIdeal Cert.KernelIdeal.Gen
open Idealize.ShloMosaic Idealize.ShloMosaic.ValueIdx
open Cert.Proof.Words Cert.Proof.Rows Cert.Proof.Trip Cert.Proof.Body Cert.Proof.Ids

/-- The word the maxima start from is the least extended real. -/
theorem low_eq : (FloatOps.ofBits .f32 0xFF800000#32 : Ideal .f32) = (⊥ : EReal) := by
  show Ideal.ofBits .f32 0xFF800000#32 = ⊥
  simp [Ideal.ofBits, Ideal.ieee]

/-- A maximum from the least extended real is at most a bound exactly when every element is. -/
theorem fold_max_le {ι : Type} [DecidableEq ι] (g : ι → EReal) (b : EReal) (s : Finset ι) :
    s.fold max (FloatOps.ofBits .f32 0xFF800000#32 : Ideal .f32) g ≤ b ↔ ∀ i ∈ s, g i ≤ b := by
  have h := fold_le_iff (β := EReal) max (fun x : EReal => x) (fun _ _ => rfl) g (FloatOps.ofBits .f32 0xFF800000#32 : Ideal .f32) b s
  refine h.trans ?_
  rw [low_eq]
  exact ⟨fun H => H.2, fun H => ⟨bot_le, H⟩⟩

/-- The greatest element of each column among the rows a mask is on at. -/
def colMax {n : ℕ} (v : IVec ⟨2, ![n, 1]⟩ 1) (x : FVec Ideal ⟨2, ![n, 128]⟩ .f32)
    (hc : (⟨2, ![n, 1]⟩ : Shape).ShapeCasts ⟨2, ![n, 1]⟩) (hb : (⟨2, ![n, 1]⟩ : Shape).Broadcasts ⟨2, ![n, 128]⟩)
    (hr : (⟨2, ![n, 128]⟩ : Shape).Reduces [0] S128) : FVec Ideal S1x128 .f32 :=
  shapeCast S1x128 (multiReduction .maximumf [0] S128 (select (broadcastTo ⟨2, ![n, 128]⟩ (shapeCast ⟨2, ![n, 1]⟩ v hc) hb) x
    (broadcast ⟨2, ![n, 128]⟩ (Scalar.ofBits .f32 0xFF800000#32 : Ideal .f32))) 0xFF800000#32 hr (.inl rfl) rfl) shapeCasts_S128_S1x128

theorem colMax_le {n : ℕ} (v : IVec ⟨2, ![n, 1]⟩ 1) (x : FVec Ideal ⟨2, ![n, 128]⟩ .f32)
    (hc : (⟨2, ![n, 1]⟩ : Shape).ShapeCasts ⟨2, ![n, 1]⟩) (hb : (⟨2, ![n, 1]⟩ : Shape).Broadcasts ⟨2, ![n, 128]⟩)
    (hr : (⟨2, ![n, 128]⟩ : Shape).Reduces [0] S128) (ch : Fin 128) (b : EReal) :
    colMax v x hc hb hr (ix2 (n0 := 1) (n1 := 128) 0 ch) ≤ b ↔ ∀ q : Fin n, v (ix2 q 0) = 1#1 → x (ix2 q ch) ≤ b := by
  have e1 : ∀ y : FVec Ideal S128 .f32, shapeCast S1x128 y shapeCasts_S128_S1x128 (ix2 (n0 := 1) (n1 := 128) 0 ch) = y (ix1 ch) := fun y => by
    refine congrArg y (Shape.reshapeEquiv_eq_of_rowMajor _ ?_)
    rw [Shape.rowMajor_val_two, Shape.rowMajor_val_one]
    show ch.val = 0 * 128 + ch.val
    omega
  have e2 : ∀ q : Fin n, hr.lift (ix1 ch : S128.Idx) q = (ix2 q ch : (⟨2, ![n, 128]⟩ : Shape).Idx) := fun q => by
    funext a
    refine Fin.ext ?_
    fin_cases a <;> rfl
  have e3 : ∀ q : Fin n, broadcastTo ⟨2, ![n, 128]⟩ (shapeCast ⟨2, ![n, 1]⟩ v hc) hb (ix2 q ch) = v (ix2 q 0) := fun q => by
    rw [shapeCast_self]
    refine broadcastTo_apply v hb (ix2 q ch) (ix2 q 0) fun ax => ?_
    match ax with
    | ⟨0, _⟩ =>
      show q.val = if n = 1 then 0 else q.val
      split
      · have := q.isLt; omega
      · rfl
    | ⟨1, _⟩ => rfl
  have e4 : ∀ q : Fin n, select (broadcastTo ⟨2, ![n, 128]⟩ (shapeCast ⟨2, ![n, 1]⟩ v hc) hb) x
      (broadcast ⟨2, ![n, 128]⟩ (Scalar.ofBits .f32 0xFF800000#32 : Ideal .f32)) (hr.lift (ix1 ch : S128.Idx) q)
      = if v (ix2 q 0) = 1#1 then x (ix2 q ch) else (⊥ : EReal) := fun q => by
    rw [e2]
    show (if broadcastTo ⟨2, ![n, 128]⟩ (shapeCast ⟨2, ![n, 1]⟩ v hc) hb (ix2 q ch) = 1 then x (ix2 q ch)
      else (FloatOps.ofBits .f32 0xFF800000#32 : Ideal .f32)) = _
    rw [e3, low_eq]
    rfl
  unfold colMax
  rw [e1]
  refine (iff_of_eq (congrArg (fun y : EReal => y ≤ b) (Ideal.multiReduction_maximumf_single _ _ _ _ _ _))).trans ?_
  rw [fold_max_le]
  constructor
  · intro H q hq
    have := (le_of_eq (e4 q).symm).trans (H q (Finset.mem_univ _))
    rwa [if_pos hq] at this
  · intro H q _
    refine (le_of_eq (e4 q)).trans ?_
    by_cases hq : v (ix2 q 0) = 1#1
    · rw [if_pos hq]; exact H q hq
    · rw [if_neg hq]; exact bot_le

/-! ## A block's features -/

/-- The transposed features at a position. -/
theorem turned_apply (X1 : FVec Ideal S1x128x6272 .f32) (p : Fin 6272) (ch : Fin 128) :
    k0_pay19 (F := Ideal) X1 (ix2 (n0 := 6272) (n1 := 128) p ch) = X1 (ix3 0 ch p) := by
  have e : k0_pay19 (F := Ideal) X1 (ix2 (n0 := 6272) (n1 := 128) p ch)
      = shapeCast S128x6272 X1 shapeCasts_S1x128x6272_S128x6272 (ix2 (n0 := 128) (n1 := 6272) ch p) := by
    refine congrArg (shapeCast S128x6272 X1 shapeCasts_S1x128x6272_S128x6272) ?_
    funext a
    fin_cases a <;> rfl
  rw [e]
  refine congrArg X1 (Shape.reshapeEquiv_eq_of_rowMajor _ ?_)
  rw [Shape.rowMajor_val_three, Shape.rowMajor_val_two]
  show (0 * 128 + ch.val) * 6272 + p.val = ch.val * 6272 + p.val
  omega

theorem rows_apply (X1 : FVec Ideal S1x128x6272 .f32) (p : Fin 6272) (ch : Fin 128) :
    k0_pay20 (F := Ideal) X1 (ix3 (n0 := 1) (n1 := 6272) (n2 := 128) 0 p ch) = X1 (ix3 0 ch p) := by
  rw [← turned_apply X1 p ch]
  refine congrArg (k0_pay19 (F := Ideal) X1) (Shape.reshapeEquiv_eq_of_rowMajor _ ?_)
  rw [Shape.rowMajor_val_three, Shape.rowMajor_val_two]
  show p.val * 128 + ch.val = (0 * 6272 + p.val) * 128 + ch.val
  omega

theorem pos_eq (q : Fin 98) (j : Fin 64) : Fin.ofNat 6272 (q.val * 64 + j.val) = pos q j :=
  Fin.ext (Nat.mod_eq_of_lt (by have := q.isLt; have := j.isLt; omega))

/-- A chunk's rows as a matrix. -/
theorem chunk_apply (X1 : FVec Ideal S1x128x6272 .f32) (q : Fin 98) (j : Fin 64) (ch : Fin 128) :
    shapeCast S64x128 (feats64 (k0_pay20 (F := Ideal) X1) q.val) shapeCasts_S1x64x128_S64x128 (ix2 j ch) = X1 (ix3 0 ch (pos q j)) := by
  have e : shapeCast S64x128 (feats64 (k0_pay20 (F := Ideal) X1) q.val) shapeCasts_S1x64x128_S64x128 (ix2 j ch)
      = feats64 (k0_pay20 (F := Ideal) X1) q.val (ix3 0 j ch) := by
    refine congrArg (feats64 (k0_pay20 (F := Ideal) X1) q.val) (Shape.reshapeEquiv_eq_of_rowMajor _ ?_)
    rw [Shape.rowMajor_val_three, Shape.rowMajor_val_two]
    show (0 * 64 + j.val) * 128 + ch.val = j.val * 128 + ch.val
    omega
  rw [e, ← rows_apply X1 (pos q j) ch, ← pos_eq]
  rfl

/-- A chunk's maximum is at most a bound exactly when all its features are. -/
theorem chunkTop_le (X1 : FVec Ideal S1x128x6272 .f32) (q : Fin 98) (ch : Fin 128) (b : EReal) :
    k0_pay29 (F := Ideal) X1 (ix2 (n0 := 98) (n1 := 128) q ch) ≤ b ↔ ∀ j : Fin 64, X1 (ix3 0 ch (pos q j)) ≤ b := by
  have e : k0_pay29 (F := Ideal) X1 (ix2 (n0 := 98) (n1 := 128) q ch)
      = multiReduction .maximumf [1] S98x128 (shapeCast S98x64x128 (k0_pay19 (F := Ideal) X1) shapeCasts_S6272x128_S98x64x128) 0xFF800000#32
        reduces_S98x64x128_S98x128 (.inl rfl) rfl (ix2 (n0 := 98) (n1 := 128) q ch) := rfl
  have e2 : ∀ j : Fin 64, shapeCast S98x64x128 (k0_pay19 (F := Ideal) X1) shapeCasts_S6272x128_S98x64x128
      (reduces_S98x64x128_S98x128.lift (ix2 (n0 := 98) (n1 := 128) q ch) j) = X1 (ix3 0 ch (pos q j)) := fun j => by
    have e3 : reduces_S98x64x128_S98x128.lift (ix2 (n0 := 98) (n1 := 128) q ch) j = (ix3 q j ch : S98x64x128.Idx) := by
      funext a
      refine Fin.ext ?_
      fin_cases a <;> rfl
    rw [e3, ← turned_apply X1 (pos q j) ch]
    refine congrArg (k0_pay19 (F := Ideal) X1) (Shape.reshapeEquiv_eq_of_rowMajor _ ?_)
    rw [Shape.rowMajor_val_three, Shape.rowMajor_val_two]
    rfl
  rw [e]
  refine (iff_of_eq (congrArg (fun y : EReal => y ≤ b) (Ideal.multiReduction_maximumf_single _ _ _ _ _ _))).trans ?_
  rw [fold_max_le]
  constructor
  · intro H j
    exact (le_of_eq (e2 j).symm).trans (H j (Finset.mem_univ _))
  · intro H j _
    exact (le_of_eq (e2 j)).trans (H j)

/-! ## The row -/

/-- Which chunks lie strictly between two. -/
theorem between_apply (hj tj : BitVec 32) (h1 : hj.toNat ≤ 97) (h2 : tj.toNat ≤ 97) (q : Fin 98) :
    andi (cmpi .sgt chunkIx (broadcast S98x1 hj)) (cmpi .slt chunkIx (broadcast S98x1 tj)) (ix2 (n0 := 98) (n1 := 1) q 0) = 1#1
      ↔ hj.toNat < q.val ∧ q.val < tj.toNat := by
  have e : andi (cmpi .sgt chunkIx (broadcast S98x1 hj)) (cmpi .slt chunkIx (broadcast S98x1 tj)) (ix2 (n0 := 98) (n1 := 1) q 0)
      = BitVec.ofBool (hj.slt (BitVec.ofNat 32 (0 * 98 + q.val))) &&& BitVec.ofBool ((BitVec.ofNat 32 (0 * 98 + q.val)).slt tj) := rfl
  have hq := q.isLt
  have e1 : (BitVec.ofNat 32 (0 * 98 + q.val)).toInt = (q.val : ℤ) := by
    have e0 : (BitVec.ofNat 32 (0 * 98 + q.val)).toNat = q.val := by
      simp only [BitVec.toNat_ofNat]; omega
    rw [toInt_small (by omega), e0]
  have e2 : ∀ x y : Bool, BitVec.ofBool x &&& BitVec.ofBool y = 1#1 ↔ x = true ∧ y = true := by decide
  rw [e, e2, BitVec.slt_iff_toInt_lt, BitVec.slt_iff_toInt_lt, e1, toInt_small (by omega), toInt_small (by omega)]
  omega

/-- Which elements of a chunk carry a label. -/
theorem label_apply (V6 : IVec S6272x1 32) (w : BitVec 32) (q : Fin 98) (j : Fin 64) :
    cmpi .eq (ids64 V6 q.val) (broadcast S64x1 w) (ix2 (n0 := 64) (n1 := 1) j 0) = 1#1 ↔ V6 (ix2 (n0 := 6272) (n1 := 1) (pos q j) 0) = w := by
  have e : cmpi .eq (ids64 V6 q.val) (broadcast S64x1 w) (ix2 (n0 := 64) (n1 := 1) j 0)
      = BitVec.ofBool (V6 (ix2 (n0 := 6272) (n1 := 1) (Fin.ofNat 6272 (q.val * 64 + j.val)) 0) == w) := rfl
  rw [e, WordArith.ofBool_eq_one_iff, pos_eq, beq_iff_eq]

/-- What a label's row becomes is at most a bound exactly when the row found is, the label's features in the first and
    in the last chunk are, and all features of the chunks strictly between are. -/
theorem rowUpd_le (X1 : FVec Ideal S1x128x6272 .f32) (V6 : IVec S6272x1 32) (hj tj w : BitVec 32) (h t : Fin 98)
    (hh : hj.toNat = h.val) (ht : tj.toNat = t.val) (row : FVec Ideal S1x128 .f32) (ch : Fin 128) (b : EReal) :
    rowUpd (k0_pay29 (F := Ideal) X1) V6 (k0_pay20 (F := Ideal) X1) hj tj w row (ix2 (n0 := 1) (n1 := 128) 0 ch) ≤ b
      ↔ row (ix2 (n0 := 1) (n1 := 128) 0 ch) ≤ b
        ∧ (∀ j, V6 (ix2 (n0 := 6272) (n1 := 1) (pos h j) 0) = w → X1 (ix3 0 ch (pos h j)) ≤ b)
        ∧ (∀ j, V6 (ix2 (n0 := 6272) (n1 := 1) (pos t j) 0) = w → X1 (ix3 0 ch (pos t j)) ≤ b)
        ∧ ∀ q : Fin 98, h.val < q.val → q.val < t.val → ∀ j, X1 (ix3 0 ch (pos q j)) ≤ b := by
  have hl := h.isLt
  have tl := t.isLt
  unfold rowUpd
  rw [hh, ht]
  have e : k0_pay10 (k0_pay29 (F := Ideal) X1) chunkIx hj tj w (cmpi .eq (ids64 V6 h.val) (broadcast S64x1 w)) (feats64 (k0_pay20 (F := Ideal) X1) h.val)
        (ids64 V6 t.val) (feats64 (k0_pay20 (F := Ideal) X1) t.val) row
      = maximumf (shapeCast S1x128 row shapeCasts_S1x128_S1x128) (maximumf (maximumf
        (colMax (cmpi .eq (ids64 V6 h.val) (broadcast S64x1 w)) (shapeCast S64x128 (feats64 (k0_pay20 (F := Ideal) X1) h.val) shapeCasts_S1x64x128_S64x128)
          shapeCasts_S64x1_S64x1 broadcasts_S64x1_S64x128 reduces_S64x128_S128)
        (colMax (cmpi .eq (ids64 V6 t.val) (broadcast S64x1 w)) (shapeCast S64x128 (feats64 (k0_pay20 (F := Ideal) X1) t.val) shapeCasts_S1x64x128_S64x128)
          shapeCasts_S64x1_S64x1 broadcasts_S64x1_S64x128 reduces_S64x128_S128))
        (colMax (andi (cmpi .sgt chunkIx (broadcast S98x1 hj)) (cmpi .slt chunkIx (broadcast S98x1 tj))) (k0_pay29 (F := Ideal) X1)
          shapeCasts_S98x1_S98x1 broadcasts_S98x1_S98x128 reduces_S98x128_S128)) := rfl
  have em : ∀ x y : FVec Ideal S1x128 .f32, ∀ i, maximumf x y i ≤ b ↔ x i ≤ b ∧ y i ≤ b := fun x y i => max_le_iff
  rw [e, em, em, em, shapeCast_self, colMax_le, colMax_le, colMax_le]
  simp only [label_apply, chunk_apply, chunkTop_le, between_apply hj tj (by omega) (by omega), hh, ht]
  constructor
  · rintro ⟨h0, ⟨h1, h2⟩, h3⟩
    exact ⟨h0, h1, h2, fun q a c => h3 q ⟨a, c⟩⟩
  · rintro ⟨h0, h1, h2, h3⟩
    exact ⟨h0, ⟨h1, h2⟩, fun q a => h3 q a.1 a.2⟩

end Cert.Proof.RowMax

end

end
-- ==== Proof.BlockMax.lean ====
/-
  One block over the extended reals, its ids ascending: each pooled row becomes the greatest of the row found and of
  the block's features of that label.

  The chunks wholly below a label come first, and so do the chunks that reach no further than it: the label's ids lie
  between its first and its last chunk, and a chunk strictly between them holds no other id.
-/
module

public import proofs.«01_k».proof.Proof.RowMax

@[expose] public section

noncomputable section

namespace Cert.Proof.BlockMax

open Cert.KernelIdeal Cert.KernelIdeal.Gen
open Idealize.ShloMosaic Idealize.ShloMosaic.ValueIdx
open Cert.Proof.Words Cert.Proof.Rows Cert.Proof.Trip Cert.Proof.Body Cert.Proof.Ids Cert.Proof.RowMax

/-- A property that passes to smaller numbers holds exactly below the number of places it holds at. -/
theorem lt_card {n : ℕ} (P : Fin n → Prop) [DecidablePred P] (hP : ∀ q q' : Fin n, q ≤ q' → P q' → P q) (q : Fin n) :
    P q ↔ q.val < (Finset.univ.filter P).card := by
  constructor
  · intro h
    have hs : Finset.Iic q ⊆ Finset.univ.filter P := fun r hr =>
      Finset.mem_filter.2 ⟨Finset.mem_univ _, hP r q (Finset.mem_Iic.1 hr) h⟩
    have := Finset.card_le_card hs
    rw [Fin.card_Iic] at this
    omega
  · intro h
    by_contra hq
    have hs : Finset.univ.filter P ⊆ Finset.Iio q := fun r hr =>
      Finset.mem_Iio.2 (not_le.1 fun hle => hq (hP q r hle (Finset.mem_filter.1 hr).2))
    have := Finset.card_le_card hs
    rw [Fin.card_Iio] at this
    omega

/-- Every position is an element of a chunk. -/
theorem pos_split (p : Fin 6272) : pos ⟨p.val / 64, by omega⟩ ⟨p.val % 64, by omega⟩ = p :=
  Fin.ext (show p.val / 64 * 64 + p.val % 64 = p.val by omega)

theorem pos_le {q q' : Fin 98} (j j' : Fin 64) (h : q < q') : pos q j ≤ pos q' j' := by
  show q.val * 64 + j.val ≤ q'.val * 64 + j'.val
  have : q.val < q'.val := h
  omega

/-- With ids ascending, what holds of a label's features in its first and last chunk and of all features strictly
    between holds of the label's features, and conversely. -/
theorem chunks_iff (a : Fin 6272 → ℕ) (ha : ∀ p p' : Fin 6272, p ≤ p' → a p ≤ a p') (Q : Fin 6272 → Prop) (s : ℕ) (h t : Fin 98)
    (hh : h.val = (Finset.univ.filter fun q : Fin 98 => ∀ j : Fin 64, a (pos q j) < s).card)
    (ht : t.val + 1 = (Finset.univ.filter fun q : Fin 98 => ∃ j : Fin 64, a (pos q j) ≤ s).card) :
    ((∀ j, a (pos h j) = s → Q (pos h j)) ∧ (∀ j, a (pos t j) = s → Q (pos t j))
        ∧ ∀ q : Fin 98, h.val < q.val → q.val < t.val → ∀ j, Q (pos q j))
      ↔ ∀ p, a p = s → Q p := by
  have below : ∀ q : Fin 98, (∀ j : Fin 64, a (pos q j) < s) ↔ q.val < h.val := fun q => by
    rw [hh]
    refine lt_card (fun q : Fin 98 => ∀ j : Fin 64, a (pos q j) < s) (fun q q' hq H j => ?_) q
    rcases eq_or_lt_of_le hq with rfl | hlt
    · exact H j
    · exact lt_of_le_of_lt (ha _ _ (pos_le j 0 hlt)) (H 0)
  have upto : ∀ q : Fin 98, (∃ j : Fin 64, a (pos q j) ≤ s) ↔ q.val < t.val + 1 := fun q => by
    rw [ht]
    refine lt_card (fun q : Fin 98 => ∃ j : Fin 64, a (pos q j) ≤ s) (fun q q' hq H => ?_) q
    rcases eq_or_lt_of_le hq with rfl | hlt
    · exact H
    · obtain ⟨j, hj⟩ := H
      exact ⟨0, le_trans (ha _ _ (pos_le 0 j hlt)) hj⟩
  constructor
  · rintro ⟨H1, H2, H3⟩ p hp
    obtain ⟨q, j, rfl⟩ : ∃ q j, pos q j = p := ⟨_, _, pos_split p⟩
    have l1 : ¬ q.val < h.val := fun hlt => absurd hp (Nat.ne_of_lt ((below q).2 hlt j))
    have l2 := (upto q).1 ⟨j, le_of_eq hp⟩
    rcases Nat.lt_or_ge h.val q.val with c1 | c1
    · rcases Nat.lt_or_ge q.val t.val with c2 | c2
      · exact H3 q c1 c2 j
      · obtain rfl : q = t := Fin.ext (by omega)
        exact H2 j hp
    · obtain rfl : q = h := Fin.ext (by omega)
      exact H1 j hp
  · intro H
    refine ⟨fun j hj => H _ hj, fun j hj => H _ hj, fun q h1 h2 j => H _ (le_antisymm ?_ ?_)⟩
    · obtain ⟨j', hj'⟩ := (upto t).2 (by omega)
      exact le_trans (ha _ _ (pos_le j j' h2)) hj'
    · by_contra hn
      exact absurd ((below h).1 fun j' => lt_of_le_of_lt (ha _ _ (pos_le j' j h1)) (not_le.1 hn)) (lt_irrefl _)

/-- An element of the ids' column is a label's word exactly when the id is the label. -/
theorem column_eq (i : grid0.Coords) (X0 : IVec S1x1x6272 32) (p : Fin 6272) (s : ℕ) (hs : s < 64) :
    k0_pay25 (F := Ideal) i X0 (ix2 (n0 := 6272) (n1 := 1) p 0) = wd s ↔ idN i X0 p = s := by
  have e : k0_pay25 (F := Ideal) i X0 = k0_pay24 (F := Ideal) i X0 := shapeCast_self _ _
  rw [e, ← column_toNat (F := Ideal), ← BitVec.toNat_inj, toNat_wd (by omega)]

/-- What a block leaves in the pooled rows is at most a bound exactly when the rows found are and the block's features
    of the label are. -/
theorem pooled_le {i : grid0.Coords} {X0 : IVec S1x1x6272 32} (hok : IdsOK i X0)
    (ha : ∀ p p' : Fin 6272, p ≤ p' → idN i X0 p ≤ idN i X0 p') (X1 : FVec Ideal S1x128x6272 .f32) (S : FVec Ideal S64x128 .f32)
    (s : Fin 64) (ch : Fin 128) (b : EReal) :
    pooled (F := Ideal) i X0 X1 S (ix2 s ch) ≤ b ↔ S (ix2 s ch) ≤ b ∧ ∀ p : Fin 6272, idN i X0 p = s.val → X1 (ix3 0 ch p) ≤ b := by
  have hs := s.isLt
  have hb := hi_bounds (F := Ideal) hok
  by_cases hc : (loW (F := Ideal) X0).toNat ≤ s.val ∧ s.val ≤ (hiW (F := Ideal) i X0).toNat
  · have e : pooled (F := Ideal) i X0 X1 S (ix2 s ch)
        = rowUpd (k0_pay29 X1) (k0_pay25 (F := Ideal) i X0) (k0_pay20 X1) (cntLt (k0_pay28 (F := Ideal) i X0) (wd s.val))
          (Scalar.subi (cntLe (k0_pay27 (F := Ideal) i X0) (wd s.val)) 1#32) (wd s.val) (getRow S s.val)
          (ix2 (n0 := 1) (n1 := 128) 0 ch) := if_pos ⟨hc.1, hc.2, by have := hc.2; show s.val < _; omega⟩
    have h1 := cntLt_le (F := Ideal) hok s.val hc.2
    have h2 := cntLe_bounds (F := Ideal) hok s.val hc.1 hs
    have h3 := last_toNat _ h2.1
    have hg : getRow S s.val (ix2 (n0 := 1) (n1 := 128) 0 ch) = S (ix2 s ch) := by
      refine congrArg S ?_
      have : Fin.ofNat 64 s.val = s := Fin.ext (Nat.mod_eq_of_lt hs)
      show ix2 (Fin.ofNat 64 s.val) ch = _
      rw [this]
    obtain ⟨h, eh⟩ : ∃ h : Fin 98, (cntLt (k0_pay28 (F := Ideal) i X0) (wd s.val)).toNat = h.val :=
      ⟨⟨(cntLt (k0_pay28 (F := Ideal) i X0) (wd s.val)).toNat, by omega⟩, rfl⟩
    obtain ⟨t, et⟩ : ∃ t : Fin 98, (cntLe (k0_pay27 (F := Ideal) i X0) (wd s.val)).toNat - 1 = t.val :=
      ⟨⟨(cntLe (k0_pay27 (F := Ideal) i X0) (wd s.val)).toNat - 1, by omega⟩, rfl⟩
    rw [e, rowUpd_le X1 _ _ _ _ h t eh (h3.trans et), hg]
    simp only [column_eq i X0 _ s.val hs]
    refine and_congr_right fun _ => chunks_iff (idN i X0) ha (fun p => X1 (ix3 0 ch p) ≤ b) s.val _ _ ?_ ?_
    · exact eh.symm.trans (cntLt_toNat hok s.val (by omega))
    · rw [← cntLe_toNat (F := Ideal) hok s.val (by omega)]
      omega
  · have e : pooled (F := Ideal) i X0 X1 S (ix2 s ch) = S (ix2 s ch) := if_neg fun H => hc ⟨H.1, H.2.1⟩
    rw [e]
    refine ⟨fun h => ⟨h, fun p hp => absurd ?_ hc⟩, fun h => h.1⟩
    have hv : Valid i p.val := by
      by_contra hn
      unfold idN at hp
      rw [if_neg hn] at hp
      omega
    have h0 := ha 0 p (Fin.zero_le _)
    have e0 : idN i X0 0 = (loW (F := Ideal) X0).toNat := by
      unfold idN
      rw [loW_eq]
      exact if_pos (valid_zero i)
    have h1 := (hiW_le (F := Ideal) hok ((hiW (F := Ideal) i X0).toNat : ℤ) (by omega)).1 (by omega) p hv
    have e1 : idN i X0 p = (X0 (ix3 0 0 p)).toNat := if_pos hv
    omega

end Cert.Proof.BlockMax

end

end
-- ==== Proof.Pool.lean ====
/-
  The pooled rows over the points of the grid, over the extended reals: after each point a batch's row of a label is
  the greatest of the features of that label among the positions the batch's points have reached.
-/
module

public import proofs.«01_k».proof.Proof.BlockMax
public import proofs.«01_k».proof.Proof.Given

@[expose] public section

noncomputable section

namespace Cert.Proof.Pool

open Cert.KernelIdeal Cert.KernelIdeal.Gen
open Idealize.ShloMosaic Idealize.ShloMosaic.TcCoe Idealize.ShloMosaic.ValueIdx
open Cert.Proof.Words Cert.Proof.Rows Cert.Proof.Trip Cert.Proof.Body Cert.Proof.Ids Cert.Proof.Blocks Cert.Proof.Launch
open Cert.Proof.Given Cert.Proof.RowMax Cert.Proof.BlockMax

variable (m : (ℓ : Loc nD τ sig) → Buf (Elt Ideal) ℓ)

/-- One feature of one point of the argument. -/
abbrev featAt (c : Dev nD) (b : Fin 8) (ch : Fin 128) (n : Fin 50000) : EReal :=
  (m ((c : Thread nD τ).loc main_arg0) : S8x128x50000.Idx → EReal) (ix3 b ch n)

/-- The greatest feature of a label among a batch's first `k` positions. -/
def top (c : Dev nD) (b : Fin 8) (s ch k : ℕ) (hch : ch < 128) : EReal :=
  (Finset.univ.filter fun n : Fin 50000 => n.val < k ∧ (idAt m c b n).toNat = s).sup fun n => featAt m c b ⟨ch, hch⟩ n

theorem top_le (c : Dev nD) (b : Fin 8) (s ch k : ℕ) (hch : ch < 128) (x : EReal) :
    top m c b s ch k hch ≤ x ↔ ∀ n : Fin 50000, n.val < k → (idAt m c b n).toNat = s → featAt m c b ⟨ch, hch⟩ n ≤ x := by
  unfold top
  rw [Finset.sup_le_iff]
  constructor
  · intro H n h1 h2
    exact H n (Finset.mem_filter.2 ⟨Finset.mem_univ _, h1, h2⟩)
  · intro H n hn
    have := (Finset.mem_filter.1 hn).2
    exact H n this.1 this.2

theorem top_congr (c : Dev nD) {b b' : Fin 8} (s ch : ℕ) {k k' : ℕ} (hch : ch < 128) (hb : b = b') (hk : k = k') :
    top m c b s ch k hch = top m c b' s ch k' hch := by
  subst hb hk; rfl

/-- The pooled rows of the batch of point `t` among its first `k` positions. -/
def rowsAt (c : Dev nD) (t : Fin cfg0.N) (k : ℕ) : S64x128.Idx → Elt Ideal .f32 :=
  fun j => top m c ⟨t.val / 8, batch_lt t⟩ (j 0).val (j 1).val k (j 1).isLt

theorem rowsAt_le (c : Dev nD) (t : Fin cfg0.N) (k : ℕ) (s : Fin 64) (ch : Fin 128) (x : EReal) :
    rowsAt m c t k (ix2 s ch) ≤ x ↔ ∀ n : Fin 50000, n.val < k → (idAt m c ⟨t.val / 8, batch_lt t⟩ n).toNat = s.val →
      featAt m c ⟨t.val / 8, batch_lt t⟩ ch n ≤ x :=
  top_le m c ⟨t.val / 8, batch_lt t⟩ s.val ch.val k ch.isLt x

/-- The pooled rows after point `t`. -/
def rowsAfter (c : Dev nD) (t : Fin cfg0.N) : S64x128.Idx → Elt Ideal .f32 := rowsAt m c t ((t.val % 8 + 1) * 6272)

/-- Before a point that is not its batch's first, they are what the point before left. -/
theorem rowsAfter_prev (c : Dev nD) (t : Fin cfg0.N) (ht : t.val % 8 ≠ 0) :
    rowsAfter m c ⟨t.val - 1, Nat.lt_of_le_of_lt (Nat.sub_le _ _) t.isLt⟩ = rowsAt m c t (t.val % 8 * 6272) := by
  have h1 : (⟨(t.val - 1) / 8, batch_lt ⟨t.val - 1, Nat.lt_of_le_of_lt (Nat.sub_le _ _) t.isLt⟩⟩ : Fin 8) = ⟨t.val / 8, batch_lt t⟩ :=
    Fin.ext (show (t.val - 1) / 8 = t.val / 8 by omega)
  have h2 : (t.val - 1) % 8 + 1 = t.val % 8 := by omega
  funext j
  unfold rowsAfter rowsAt
  exact top_congr m c _ _ _ h1 (congrArg (fun k => k * 6272) h2)

/-- Which points start a batch. -/
theorem isFirst_iff (t : Fin cfg0.N) : isFirst (grid0.coords t) ↔ t.val % 8 = 0 := by
  unfold isFirst
  rw [coord_one]
  have : ∀ k : Fin 8, (Scalar.cmpi .ne (Scalar.extui (Scalar.cmpi .eq (BitVec.ofNat 32 k.val) 0#32) : BitVec 32) 0#32 = 1#1) ↔ k.val = 0 := by
    decide
  exact this ⟨t.val % 8, Nat.mod_lt _ (by omega)⟩

theorem idN_in (c : Dev nD) (t : Fin cfg0.N) (d) (p : Fin 6272) (hp : t.val % 8 * 6272 + p.val < 50000) :
    idN (grid0.coords t) (idsBuf m c t d) p = (idAt m c ⟨t.val / 8, batch_lt t⟩ ⟨t.val % 8 * 6272 + p.val, hp⟩).toNat := by
  unfold idN
  rw [if_pos ((valid_iff t p.val).2 hp), idsBuf_at m c t d p hp]

theorem idN_out (c : Dev nD) (t : Fin cfg0.N) (d) (p : Fin 6272) (hp : ¬ t.val % 8 * 6272 + p.val < 50000) :
    idN (grid0.coords t) (idsBuf m c t d) p = 127 :=
  if_neg fun h => hp ((valid_iff t p.val).1 h)

/-- A block of an ascending array is ascending. -/
theorem block_ascending (hl : Labels m) (ha : Ascending m) (c : Dev nD) (t : Fin cfg0.N) (d) (p p' : Fin 6272) (h : p ≤ p') :
    idN (grid0.coords t) (idsBuf m c t d) p ≤ idN (grid0.coords t) (idsBuf m c t d) p' := by
  have h' : p.val ≤ p'.val := h
  by_cases hp : t.val % 8 * 6272 + p'.val < 50000
  · rw [idN_in m c t d p' hp, idN_in m c t d p (by omega)]
    exact ha c _ _ _ (Nat.add_le_add_left h' _)
  · rw [idN_out m c t d p' hp]
    have := idN_lt (idsOK m hl c t d) p
    omega

/-- One point: the pooled rows it leaves. -/
theorem step (hl : Labels m) (ha : Ascending m) (c : Dev nD) (t : Fin cfg0.N) (d0 d1) (G : S64x128.Idx → Elt Ideal .f32)
    (hG : t.val % 8 ≠ 0 → G = rowsAt m c t (t.val % 8 * 6272)) :
    pooled (F := Ideal) (grid0.coords t) (idsBuf m c t d0) (featsBuf m c t d1) (start (grid0.coords t) G) = rowsAfter m c t := by
  funext j
  obtain ⟨s, ch, rfl⟩ : ∃ (s : Fin 64) (ch : Fin 128), j = ix2 s ch := ⟨_, _, eq_ix2 j⟩
  have hs := s.isLt
  refine eq_of_forall_ge_iff (α := EReal) fun x => ?_
  refine (pooled_le (idsOK m hl c t d0) (block_ascending m hl ha c t d0) (featsBuf m c t d1) _ s ch x).trans ?_
  unfold rowsAfter
  refine Iff.trans ?_ (rowsAt_le m c t ((t.val % 8 + 1) * 6272) s ch x).symm
  have h0 : start (F := Ideal) (grid0.coords t) G (ix2 s ch) ≤ x ↔ ∀ n : Fin 50000, n.val < t.val % 8 * 6272 →
      (idAt m c ⟨t.val / 8, batch_lt t⟩ n).toNat = s.val → featAt m c ⟨t.val / 8, batch_lt t⟩ ch n ≤ x := by
    unfold start
    by_cases h : t.val % 8 = 0
    · rw [if_pos ((isFirst_iff t).2 h), h]
      refine ⟨fun _ n hn => absurd hn (by omega), fun _ => ?_⟩
      exact le_of_eq_of_le low_eq bot_le
    · rw [if_neg fun hf => h ((isFirst_iff t).1 hf), hG h]
      exact rowsAt_le m c t (t.val % 8 * 6272) s ch x
  rw [h0]
  constructor
  · rintro ⟨H1, H2⟩ n hn hid
    rcases Nat.lt_or_ge n.val (t.val % 8 * 6272) with hlt | hge
    · exact H1 n hlt hid
    · obtain ⟨p, hp⟩ : ∃ p : Fin 6272, t.val % 8 * 6272 + p.val = n.val := ⟨⟨n.val - t.val % 8 * 6272, by omega⟩, by
        show t.val % 8 * 6272 + (n.val - t.val % 8 * 6272) = n.val; omega⟩
      have hv : t.val % 8 * 6272 + p.val < 50000 := hp ▸ n.isLt
      obtain rfl : (⟨t.val % 8 * 6272 + p.val, hv⟩ : Fin 50000) = n := Fin.ext hp
      have := H2 p (by rw [idN_in m c t d0 p hv]; exact hid)
      rwa [featsBuf_at m c t d1 ch p hv] at this
  · intro H
    have hk : t.val % 8 * 6272 ≤ (t.val % 8 + 1) * 6272 := Nat.mul_le_mul_right _ (Nat.le_succ _)
    refine ⟨fun n hn hid => H n (lt_of_lt_of_le hn hk) hid, fun p hid => ?_⟩
    have hv : t.val % 8 * 6272 + p.val < 50000 := by
      by_contra hn
      rw [idN_out m c t d0 p hn] at hid
      omega
    rw [idN_in m c t d0 p hv] at hid
    rw [featsBuf_at m c t d1 ch p hv]
    have := p.isLt
    have hr : t.val % 8 * 6272 + p.val < (t.val % 8 + 1) * 6272 := by omega
    exact H ⟨t.val % 8 * 6272 + p.val, hv⟩ hr hid

end Cert.Proof.Pool

end

end
-- ==== Proof.Exact.lean ====
/-
  The region over the extended reals with its two results named: each point leaves the pooled rows of `Pool` and its
  block of the features turned, and the two result arrays end as these make them.
-/
module

public import proofs.«01_k».proof.Proof.Pool

@[expose] public section

noncomputable section

namespace Cert.Proof.Exact

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)
open Cert.Proof.Words Cert.Proof.Rows Cert.Proof.Trip Cert.Proof.Body Cert.Proof.Ids Cert.Proof.Blocks Cert.Proof.Launch
open Cert.Proof.Given Cert.Proof.RowMax Cert.Proof.BlockMax Cert.Proof.Pool

local notation "𝕄" => MT nD τ sig Unit (Elt Ideal) ℕ (UR sig nD τ) ℕ

variable (m : (ℓ : Loc nD τ sig) → Buf (Elt Ideal) ℓ)

/-! ## What a point leaves of the turned features -/

/-- The features' block turned, what the staging buffer held past the array's end being `d`. -/
def turned (c : Dev nD) (t : Fin cfg0.N) (d : S1x128x6272.Idx → Elt Ideal .f32) : S1x6272x128.Idx → Elt Ideal .f32 :=
  k0_pay20 (F := Ideal) (featsBuf m c t d)

theorem turned_at (c : Dev nD) (t : Fin cfg0.N) (d) (p : Fin 6272) (ch : Fin 128) (hp : t.val % 8 * 6272 + p.val < 50000) :
    turned m c t d (ix3 0 p ch) = featAt m c ⟨t.val / 8, batch_lt t⟩ ch ⟨t.val % 8 * 6272 + p.val, hp⟩ :=
  (rows_apply (featsBuf m c t d) p ch).trans (featsBuf_at m c t d ch p hp)

/-- Where the turned features' block starts. -/
theorem index_turned : ∀ t : Fin cfg0.N, win0_3.index t = ![t.val / 8, t.val % 8, 0] :=
  (by decide +kernel : ∀ t : Fin grid0.N, win0_3.index t = ![t.val / 8, t.val % 8, 0])

/-- How much of the turned features' block lies inside the array. -/
theorem size_turned : ∀ t : Fin cfg0.N, win0_3.xsize (grid0.coords t) = ![1, min 6272 (50000 - t.val % 8 * 6272), 128] :=
  (by decide +kernel : ∀ t : Fin grid0.N, win0_3.xsize (grid0.coords t) = ![1, min 6272 (50000 - t.val % 8 * 6272), 128])

/-- Where the pooled rows' block starts. -/
theorem index_pooled : ∀ t : Fin cfg0.N, win0_2.index t = ![t.val / 8, 0] :=
  (by decide +kernel : ∀ t : Fin grid0.N, win0_2.index t = ![t.val / 8, 0])

/-- A place of the block that is written back, and that it lies inside the array. -/
theorem place_turned (t : Fin cfg0.N) (y : (win0_3.xblock (grid0.coords t)).Idx) :
    ∃ (p : Fin 6272) (ch : Fin 128), win0_3.xinj (grid0.coords t) y = (ix3 0 p ch : S1x6272x128.Idx)
      ∧ (y 1).val = p.val ∧ (y 2).val = ch.val ∧ t.val % 8 * 6272 + p.val < 50000 := by
  have h : ∀ a, (y a).val < (![1, min 6272 (50000 - t.val % 8 * 6272), 128] : Fin 3 → ℕ) a := fun a =>
    lt_of_lt_of_eq (y a).isLt (congrFun (size_turned t) a)
  have h0 : (y 0).val < 1 := h 0
  have h1 : (y 1).val < min 6272 (50000 - t.val % 8 * 6272) := h 1
  have h2 : (y 2).val < 128 := h 2
  refine ⟨⟨(y 1).val, by omega⟩, ⟨(y 2).val, h2⟩, ?_, rfl, rfl, by show t.val % 8 * 6272 + (y 1).val < 50000; omega⟩
  funext a
  refine Fin.ext ?_
  fin_cases a
  · show (y 0).val = 0; omega
  · rfl
  · rfl

/-- What is written back does not depend on what the buffer held past the array's end. -/
theorem turned_cut (c : Dev nD) (t : Fin cfg0.N) (d d') :
    win0_3.cut (grid0.coords t) (turned m c t d) = win0_3.cut (grid0.coords t) (turned m c t d') := by
  funext y
  obtain ⟨p, ch, e, _, _, hp⟩ := place_turned t y
  refine (congrArg (turned m c t d) e).trans (Eq.trans ?_ (congrArg (turned m c t d') e).symm)
  rw [turned_at m c t d p ch hp, turned_at m c t d' p ch hp]

/-! ## The points -/

section Points

variable (R2 : Dev nD → Fin cfg0.N → S64x128.Idx → Elt Ideal .f32) (R3 : Dev nD → Fin cfg0.N → S1x6272x128.Idx → Elt Ideal .f32)

/-- At a point that is not its batch's first the pooled rows' buffer holds what the point before left. -/
theorem before_pooled (c : Dev nD) (t : Fin cfg0.N) (ht : t.val % 8 ≠ 0) (d) :
    (dats m R2 R3 0 c).before (2 : Fin 4) t d = R2 c ⟨t.val - 1, Nat.lt_of_le_of_lt (Nat.sub_le _ _) t.isLt⟩ := by
  refine ((dats m R2 R3 0 c).before_out_kept (2 : Fin 4) rfl t (by omega) ?_ (fun _ => rfl) (fun _ _ => rfl) d).trans rfl
  rw [Bool.eq_false_iff]
  intro hf
  have h := (flush0_2 _).1 hf
  change (t.val - 1) % 8 = 7 at h
  omega

/-- The results named by `R2` and `R3` are what each point leaves: the pooled rows follow from those before, and the
part of the turned features that is written back is `R3`'s. -/
structure Leaves : Prop where
  pooled : ∀ c t d0 d1 G, (t.val % 8 ≠ 0 → G = R2 c ⟨t.val - 1, Nat.lt_of_le_of_lt (Nat.sub_le _ _) t.isLt⟩) →
    pooled (F := Ideal) (grid0.coords t) (idsBuf m c t d0) (featsBuf m c t d1) (start (F := Ideal) (grid0.coords t) G) = R2 c t
  turned : ∀ c t d, win0_3.cut (grid0.coords t) (k0_pay20 (F := Ideal) (featsBuf m c t d)) = win0_3.cut (grid0.coords t) (R3 c t)

variable {R2 R3}

theorem points (hl : Labels m) (hR : Leaves m R2 R3) (c : Dev nD) :
    BodyObligationLoose (dats m R2 R3 0 c) (defs₀ (F := Ideal)) 𝒱₀ () Set.univ := fun t => by
  rw [bigSep_W0, bigSep_W0, bodyAt]
  dsimp only
  rw [show (dats m R2 R3 0 c).Φ t.succ = Pipeline.ΦA spec0 c from rfl, show (dats m R2 R3 0 c).Φ t.castSucc = Pipeline.ΦA spec0 c from rfl,
    show (dats m R2 R3 0 c).owesAt () t.succ = (dats m R2 R3 0 c).owesAt () t.castSucc from rfl, inv_eq]
  iintro ⟨⟨⟨%f6, H6⟩, Hr⟩, Ho, ⟨%d0, H0⟩, ⟨%d1, H1⟩, ⟨%Y2, H2⟩, ⟨%Y3, H3⟩⟩
  rw [before_ids m R2 R3 c t d0, before_feats m R2 R3 c t d1]
  iapply (body (F := Ideal) c (grid0.coords t) _ _ _ _ _ _ _ _ (Memref.whole cc0_scratch0) _ (idsBuf m c t d0) (featsBuf m c t d1)
    ((dats m R2 R3 0 c).before (2 : Fin 4) t Y2) _ (blockOK (idsOK m hl c t d0)) f6 _)
  isplitl [H0 H1 H2 H3 H6]
  · isplitl [H0]; · iexact H0
    isplitl [H1]; · iexact H1
    isplitl [H2]; · iexact H2
    isplitl [H3]; · iexact H3
    rw [View.set_whole]
    iexact H6
  rw [hR.pooled c t d0 d1 _ fun h => before_pooled m R2 R3 c t h Y2]
  iintro ⟨H0, H1, H2, H3, ⟨%f6', H6⟩⟩
  isplitl [H6 Hr]
  · isplitl [H6]
    · iexists f6'
      rw [View.set_whole]
      iexact H6
    · iexact Hr
  isplitl [Ho]; · iexact Ho
  isplitl [H0]
  · iexists d0
    change _ ⊢ owns (c : Thread nD τ) (win0_0.stage (cfg0.slots t 0)) fullShare (win0_0.fill (grid0.coords t) d0 (win0_0.cut (grid0.coords t) (idsBuf m c t fun _ => 0#32)))
    rw [back_ids]
  isplitl [H1]
  · iexists d1
    change _ ⊢ owns (c : Thread nD τ) (win0_1.stage (cfg0.slots t 1)) fullShare (win0_1.fill (grid0.coords t) d1 (win0_1.cut (grid0.coords t) (featsBuf m c t fun _ => Scalar.ofBits (F := Ideal) .f32 0#32)))
    rw [back_feats]
  isplitl [H2]
  · iexact H2
  · iexists (k0_pay20 (F := Ideal) (featsBuf m c t d1))
    change _ ⊢ owns (c : Thread nD τ) (win0_3.stage (cfg0.slots t 3)) fullShare (win0_3.fill (grid0.coords t) (k0_pay20 (F := Ideal) (featsBuf m c t d1)) (win0_3.cut (grid0.coords t) (R3 c t)))
    rw [win0_3.fill_congr_cut _ (hR.turned c t d1)]

end Points

/-- What is left of the turned features, up to what is written back. -/
def turnedAt (c : Dev nD) (t : Fin cfg0.N) : S1x6272x128.Idx → Elt Ideal .f32 :=
  turned m c t fun _ => Scalar.ofBits (F := Ideal) .f32 0#32

theorem leaves (hl : Labels m) (ha : Ascending m) : Leaves m (rowsAfter m) (turnedAt m) where
  pooled c t d0 d1 G hG := step m hl ha c t d0 d1 G fun h => (hG h).trans (rowsAfter_prev m c t h)
  turned c t d := turned_cut m c t d _

end Cert.Proof.Exact

end

end
-- ==== Proof.Arrays.lean ====
/-
  The two arrays the region leaves, and the run with the kernel's two results.
-/
module

public import proofs.«01_k».proof.Proof.Exact

@[expose] public section

noncomputable section

namespace Cert.Proof.Arrays

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window BodyObligation BodyObligationLoose)
open Cert.Proof.Trip Cert.Proof.Body Cert.Proof.Blocks Cert.Proof.Launch Cert.Proof.Given Cert.Proof.Pool Cert.Proof.Exact

variable (m : (ℓ : Loc nD τ sig) → Buf (Elt Ideal) ℓ)
variable (R2 : Dev nD → Fin cfg0.N → S64x128.Idx → Elt Ideal .f32) (R3 : Dev nD → Fin cfg0.N → S1x6272x128.Idx → Elt Ideal .f32)

theorem row_lt (t : Fin cfg0.N) (s : Fin 64) : t.val / 8 * 64 + s.val < 512 := by
  have := batch_lt t
  omega

/-- A place of the pooled rows' block in the array. -/
theorem emb_pooled (t : Fin cfg0.N) (y : S64x128.Idx) :
    ((cfg0.win 2).blk t).view.emb y = (ix2 ⟨t.val / 8 * 64 + (y 0).val, row_lt t (y 0)⟩ (y 1) : S512x128.Idx) := by
  funext a
  refine Fin.ext ?_
  fin_cases a
  · blk_simp [index_pooled t]; rfl
  · blk_simp [index_pooled t]; rfl

/-- The pooled array is what the last point of each batch leaves. -/
theorem pooled_array (c : Dev nD) (G : S512x128.Idx → Elt Ideal .f32)
    (hG : ∀ (t : Fin cfg0.N) (y : S64x128.Idx), t.val % 8 = 7 → R2 c t y = G (ix2 ⟨t.val / 8 * 64 + (y 0).val, row_lt t (y 0)⟩ (y 1))) :
    (dats m R2 R3 0 c).arrAt (2 : Fin 4) cfg0.N = G := by
  refine (dats m R2 R3 0 c).arrAt_eq_of_covers (2 : Fin 4) G (by decide +kernel) fun t hf y => ?_
  exact (hG t y ((flush0_2 t).1 hf)).trans (congrArg G (emb_pooled t y).symm)

/-- A place of the turned features' block in the array. -/
theorem emb_turned (t : Fin cfg0.N) (y : (win0_3.xblock (grid0.coords t)).Idx) (p : Fin 6272) (ch : Fin 128)
    (h1 : (y 1).val = p.val) (h2 : (y 2).val = ch.val) (hp : t.val % 8 * 6272 + p.val < 50000) :
    ((cfg0.win 3).blk t).view.emb y = (ix3 ⟨t.val / 8, batch_lt t⟩ ⟨t.val % 8 * 6272 + p.val, hp⟩ ch : S8x50000x128.Idx) := by
  have h0 : (y 0).val < 1 := lt_of_lt_of_eq (y 0).isLt (congrFun (size_turned t) 0)
  funext a
  refine Fin.ext ?_
  fin_cases a
  · blk_simp [index_turned t]; show t.val / 8 + (y 0).val = t.val / 8; omega
  · blk_simp [index_turned t]; show t.val % 8 * 6272 + (y 1).val = t.val % 8 * 6272 + p.val; omega
  · blk_simp [index_turned t]; exact h2

/-- The turned array is what the points leave inside it. -/
theorem turned_array (c : Dev nD) (G : S8x50000x128.Idx → Elt Ideal .f32)
    (hG : ∀ (t : Fin cfg0.N) (p : Fin 6272) (ch : Fin 128) (hp : t.val % 8 * 6272 + p.val < 50000),
      R3 c t (ix3 0 p ch) = G (ix3 ⟨t.val / 8, batch_lt t⟩ ⟨t.val % 8 * 6272 + p.val, hp⟩ ch)) :
    (dats m R2 R3 0 c).arrAt (3 : Fin 4) cfg0.N = G := by
  refine (dats m R2 R3 0 c).arrAt_eq_of_covers (3 : Fin 4) G (by decide +kernel) fun t hf y => ?_
  obtain ⟨p, ch, e, h1, h2, hp⟩ := place_turned t y
  exact (congrArg (R3 c t) e).trans ((hG t p ch hp).trans (congrArg G (emb_turned t y p ch h1 h2 hp).symm))

/-- The line after the region flattens the turned features. -/
theorem flattened (c : Dev nD) :
    Pipeline.afterTail₀ cfgs (dats m R2 R3) 0 (V0 m) [hostOps1] c main_v2
      = shapeCast S400000x128 ((dats m R2 R3 0 c).arrAt (3 : Fin 4) cfg0.N : S8x50000x128.Idx → Elt Ideal .f32) shapeCasts_S8x50000x128_S400000x128 := by
  unfold Pipeline.afterTail₀
  simp only [hostOps1, List.flatten_cons, List.flatten_nil, List.append_nil]
  rw [StableHlo.after_cons, StableHlo.after_nil, StableHlo.reshape_result']
  exact congrArg (fun X : S8x50000x128.Idx → Elt Ideal .f32 => shapeCast S400000x128 X shapeCasts_S8x50000x128_S400000x128)
    (Pipeline.withArrays_arr spec0 launch0.win.arr_inj c (V0 m c) _ (3 : Fin 4))

/-- Every run ends with the arrays named and the arguments as they were. -/
theorem run (g : Dev nD → PrngReg) (hl : Labels m) (hR : Leaves m R2 R3) :
    θ_run defs (onTc (τ := τ) (main (F := Ideal))) ⟨m, fun _ => 0, g⟩ (fun r => ∀ c : Dev nD,
      r.2.mem ((c.tc : Thread nD τ).loc main_v1_0) = (dats m R2 R3 0 c).arrAt (2 : Fin 4) cfg0.N
      ∧ r.2.mem ((c.tc : Thread nD τ).loc main_v2)
        = shapeCast S400000x128 ((dats m R2 R3 0 c).arrAt (3 : Fin 4) cfg0.N : S8x50000x128.Idx → Elt Ideal .f32) shapeCasts_S8x50000x128_S400000x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  let D := dats m R2 R3
  Pipeline.θ_run_frame_around cfgs D 0 launch0 defs₀ 𝒱₀ m g main
    (fun c => points m hl hR c) (fun c => (D 0 c).share_full fun _ => rfl) (fun _ _ => rfl) (V0 m) [hostOps1]
    sfx_sub sfx_fresh sfx_keeps (hmain m 𝒱₀) (fun _ _ => rfl) (fun _ _ => rfl) _
    (fun r h c =>
      ⟨(h.1 c).1 2,
        ((h.1 c).2 main_v2 (Pipeline.mem_restRefs_of main_v2 (by decide) (by decide))).trans (flattened m R2 R3 c),
        ((h.1 c).1 1).trans (((D 0 c).arrAt_in 1 rfl _).trans (V_main_arg0 m c)),
        ((h.1 c).2 main_arg1 (Pipeline.mem_restRefs_of main_arg1 (by decide) (by decide))).trans (W_main_arg1 m D c),
        ((h.1 c).2 main_arg2 (Pipeline.mem_restRefs_of main_arg2 (by decide) (by decide))).trans (W_main_arg2 m D c)⟩)

end Cert.Proof.Arrays

end

end
-- ==== Proof.Value.lean ====
/-
  What the reference computes: the greatest feature of each label, and the features turned and flattened.
-/
module

public import proofs.«01_k».proof.Proof.Ref
public import proofs.«01_k».proof.Proof.RowMax

@[expose] public section

noncomputable section

namespace Cert.Proof.Value

open Cert.ReferenceIdeal Cert.ReferenceIdeal.Gen Cert.ReferenceIdeal.Read
open Idealize.ShloMosaic Idealize.ShloMosaic.TcCoe Idealize.ShloMosaic.ValueIdx
open Cert.Proof.RowMax

variable (x0 : S8x128x50000.Idx → EReal) (x1 : S8x50000.Idx → BitVec 32)

/-- A word is a small number's word exactly when it reads as that number. -/
theorem eq_small (w : BitVec 32) (s : Fin 64) : w = BitVec.ofNat 32 s.val ↔ w.toNat = s.val := by
  have e : (BitVec.ofNat 32 s.val).toNat = s.val := by
    rw [BitVec.toNat_ofNat]
    exact Nat.mod_eq_of_lt (by omega)
  constructor
  · intro h; rw [h, e]
  · intro h; exact BitVec.eq_of_toNat_eq (h.trans e.symm)

/-- One element of the masked features. -/
theorem masked_apply (b : Fin 8) (s : Fin 64) (ch : Fin 128) (n : Fin 50000) :
    val_main_v9 (F := Ideal) x0 x1 (ix4 b s ch n) = if (x1 (ix2 b n)).toNat = s.val then x0 (ix3 b ch n) else (⊥ : EReal) := by
  have e1 : idx_main_v3 (idx_main_v5 (idx_main_call0_v1 (ix4 b s ch n))) = (ix2 b n : S8x50000.Idx) := by
    funext a
    refine Fin.ext ?_
    fin_cases a <;> rfl
  have e2 : idx_main_v8 (idx_main_call0_v2 (ix4 b s ch n)) = (ix3 b ch n : S8x128x50000.Idx) := by
    funext a
    refine Fin.ext ?_
    fin_cases a <;> rfl
  rw [val_main_v9_apply, val_main_call0_v1_apply, val_main_v7_apply, val_main_v5_apply, val_main_v3_apply, val_main_v6_apply,
    val_main_v4_apply, val_main_v2_apply, val_main_call0_v2_apply, val_main_v8_apply, val_main_call0_v3_apply, val_main_call0_v0_apply,
    val_main_cst_apply, e1, e2, low_eq]
  show (if IntOp.cmpi .eq (x1 (ix2 b n)) (BitVec.ofNat 32 s.val) = 1 then x0 (ix3 b ch n) else (⊥ : EReal)) = _
  refine if_congr ?_ rfl rfl
  rw [← eq_small]
  show BitVec.ofBool (decide (x1 (ix2 b n) = BitVec.ofNat 32 s.val)) = 1 ↔ _
  by_cases h : x1 (ix2 b n) = BitVec.ofNat 32 s.val
  · simp [h]
  · simp [h]

/-- The reduced axis put back. -/
theorem reduces_last : S8x64x128x50000.Reduces [3] S8x64x128 := by decide

theorem greatest_le (b : Fin 8) (s : Fin 64) (ch : Fin 128) (x : EReal) :
    val_main_v10 (F := Ideal) x0 x1 (ix3 b s ch) ≤ x ↔ ∀ n : Fin 50000, (x1 (ix2 b n)).toNat = s.val → x0 (ix3 b ch n) ≤ x := by
  have e : ∀ n : Fin 50000, val_main_v9 (F := Ideal) x0 x1 (reduces_last.lift (ix3 b s ch : S8x64x128.Idx) n)
      = if (x1 (ix2 b n)).toNat = s.val then x0 (ix3 b ch n) else (⊥ : EReal) := fun n => by
    have e' : reduces_last.lift (ix3 b s ch : S8x64x128.Idx) n = (ix4 b s ch n : S8x64x128x50000.Idx) := by
      funext a
      refine Fin.ext ?_
      fin_cases a <;> rfl
    rw [e', masked_apply]
  unfold val_main_v10
  refine (iff_of_eq (congrArg (fun y : EReal => y ≤ x)
    (Host.reduce_eq_fold_single (FloatOps.maximumf (F := Ideal) (φ := .f32)) _ _ _ reduces_last _ _))).trans ?_
  refine (fold_max_le _ x Finset.univ).trans ?_
  constructor
  · intro H n hn
    have := (le_of_eq (e n).symm).trans (H n (Finset.mem_univ _))
    rwa [if_pos hn] at this
  · intro H n _
    refine (le_of_eq (e n)).trans ?_
    by_cases hn : (x1 (ix2 b n)).toNat = s.val
    · rw [if_pos hn]; exact H n hn
    · rw [if_neg hn]; exact bot_le

/-- The first result: in row `64 b + s` the greatest feature of batch `b`'s label `s`. -/
theorem pooled_le (r : Fin 512) (ch : Fin 128) (x : EReal) :
    val_main_v11 (F := Ideal) x0 x1 (ix2 r ch) ≤ x ↔ ∀ n : Fin 50000, (x1 (ix2 (⟨r.val / 64, by omega⟩ : Fin 8) n)).toNat = r.val % 64 →
      x0 (ix3 (⟨r.val / 64, by omega⟩ : Fin 8) ch n) ≤ x := by
  have e : idx_main_v11 (ix2 r ch) = (ix3 (⟨r.val / 64, by omega⟩ : Fin 8) (⟨r.val % 64, by omega⟩ : Fin 64) ch : S8x64x128.Idx) := by
    funext a
    refine Fin.ext ?_
    fin_cases a
    · show (r.val * 128 + ch.val) / 8192 = r.val / 64; omega
    · show (r.val * 128 + ch.val) / 128 % 64 = r.val % 64; omega
    · show (r.val * 128 + ch.val) % 128 = ch.val; omega
  rw [val_main_v11_apply, e]
  exact greatest_le x0 x1 _ _ ch x

/-- The second result is the features turned, flattened. -/
theorem flat_eq : val_main_v1 (F := Ideal) x0
    = shapeCast S400000x128 (fun i : S8x50000x128.Idx => x0 (ix3 (i 0) (i 2) (i 1))) shapeCasts_S8x50000x128_S400000x128 := by
  unfold val_main_v1
  refine congrArg (fun X : S8x50000x128.Idx → EReal => shapeCast S400000x128 X shapeCasts_S8x50000x128_S400000x128) ?_
  funext i
  refine (val_main_v0_apply (F := Ideal) x0 i).trans (congrArg x0 ?_)
  funext a
  refine Fin.ext ?_
  fin_cases a <;> rfl

end Cert.Proof.Value

end

end
-- ==== Proof.Equal.lean ====
/-
  The kernel and the reference leave the same two arrays.
-/
module

public import proofs.«01_k».proof.Proof.Arrays
public import proofs.«01_k».proof.Proof.Value

@[expose] public section

noncomputable section

namespace Cert.Proof.Equal

open Cert.KernelIdeal Cert.KernelIdeal.Gen
open Idealize.ShloMosaic Idealize.ShloMosaic.TcCoe Idealize.ShloMosaic.ValueIdx
open Idealize.SL.Sem
open Cert.Proof.Blocks Cert.Proof.Launch Cert.Proof.Given Cert.Proof.Pool Cert.Proof.Exact Cert.Proof.Arrays

variable (m : (ℓ : Loc nD τ sig) → Buf (Elt Ideal) ℓ)

/-- The features and the labels of the arguments. -/
abbrev feats (c : Dev nD) : S8x128x50000.Idx → EReal := m ((c : Thread nD τ).loc main_arg0)
abbrev ids (c : Dev nD) : S8x50000.Idx → BitVec 32 := m ((c : Thread nD τ).loc main_arg1)

/-- The results the reference computes from them. -/
abbrev pooledOf (c : Dev nD) : S512x128.Idx → Elt Ideal .f32 := Cert.ReferenceIdeal.Read.val_main_v11 (F := Ideal) (feats m c) (ids m c)
abbrev flatOf (c : Dev nD) : S400000x128.Idx → Elt Ideal .f32 := Cert.ReferenceIdeal.Read.val_main_v1 (F := Ideal) (feats m c)

/-- A batch's greatest features over all positions are the reference's. -/
theorem rows_eq (c : Dev nD) (t : Fin cfg0.N) (k : ℕ) (hk : 50000 ≤ k) (s : Fin 64) (ch : Fin 128) :
    rowsAt m c t k (ix2 s ch) = pooledOf m c (ix2 ⟨t.val / 8 * 64 + s.val, row_lt t s⟩ ch) := by
  refine eq_of_forall_ge_iff (α := EReal) fun x => ?_
  refine (rowsAt_le m c t k s ch x).trans (Iff.trans ?_ (Value.pooled_le (feats m c) (ids m c) ⟨t.val / 8 * 64 + s.val, row_lt t s⟩ ch x).symm)
  have e1 : ∀ h, (⟨(t.val / 8 * 64 + s.val) / 64, h⟩ : Fin 8) = ⟨t.val / 8, batch_lt t⟩ := fun h => Fin.ext (by
    show (t.val / 8 * 64 + s.val) / 64 = t.val / 8
    omega)
  have e2 : (t.val / 8 * 64 + s.val) % 64 = s.val := by omega
  simp only [e1, e2]
  constructor
  · intro H n hn
    exact H n (by omega) hn
  · intro H n _ hn
    exact H n hn

/-- The pooled array is the reference's first result. -/
theorem pooled_eq (R3 : Dev nD → Fin cfg0.N → S1x6272x128.Idx → Elt Ideal .f32) (c : Dev nD) :
    (dats m (rowsAfter m) R3 0 c).arrAt (2 : Fin 4) cfg0.N = pooledOf m c :=
  pooled_array m (rowsAfter m) R3 c (pooledOf m c) fun t y ht => by
    have hk : 50000 ≤ (t.val % 8 + 1) * 6272 := by omega
    have ey : y = ix2 (y 0) (y 1) := by
      funext a
      fin_cases a <;> rfl
    exact (congrArg (rowsAfter m c t) ey).trans (rows_eq m c t _ hk (y 0) (y 1))

/-- The turned array, flattened, is the reference's second result. -/
theorem flat_eq (R2 : Dev nD → Fin cfg0.N → S64x128.Idx → Elt Ideal .f32) (c : Dev nD) :
    shapeCast S400000x128 ((dats m R2 (turnedAt m) 0 c).arrAt (3 : Fin 4) cfg0.N : S8x50000x128.Idx → Elt Ideal .f32) shapeCasts_S8x50000x128_S400000x128
      = flatOf m c := by
  rw [turned_array m R2 (turnedAt m) c (fun i => feats m c (ix3 (i 0) (i 2) (i 1))) fun t p ch hp => turned_at m c t _ p ch hp]
  exact (Value.flat_eq (feats m c)).symm

/-- The kernel's results are the reference's. -/
theorem kernel_run (g : Dev nD → PrngReg) (hl : Labels m) (ha : Ascending m) :
    θ_run defs (onTc (τ := τ) (main (F := Ideal))) ⟨m, fun _ => 0, g⟩ (fun r => ∀ c : Dev nD,
      r.2.mem ((c.tc : Thread nD τ).loc main_v1_0) = pooledOf m c
      ∧ r.2.mem ((c.tc : Thread nD τ).loc main_v2) = flatOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨(h c).1.trans (pooled_eq m (turnedAt m) c), (h c).2.1.trans (flat_eq m (rowsAfter m) c), (h c).2.2⟩)
    (run m (rowsAfter m) (turnedAt m) g hl (leaves m hl ha))

theorem algebraic : Cert.algebraic_KernelIdeal_ReferenceIdeal_pre_labels_sorted := fun m g m' g' hpre hargs =>
  ⟨pooledOf m, flatOf m, kernel_run m g (labels_of_sorted m hpre) (ascending_of_sorted m hpre),
    (θ_run _ _ _).mono (fun _ h c => ⟨by
      refine (h c).1.trans ?_
      rw [(hargs c).1, (hargs c).2.1]
      exact Cert.ReferenceIdeal.Read.val_main_v11_eq (F := Ideal) (feats m c) (ids m c), by
      refine (h c).2.1.trans ?_
      rw [(hargs c).1]
      exact Cert.ReferenceIdeal.Read.val_main_v1_eq (F := Ideal) (feats m c), (h c).2.2⟩) (Cert.ReferenceIdeal.Value.run (F := Ideal) m' g')⟩

end Cert.Proof.Equal

end

end
-- ==== Proof.lean ====
/-
  The certificate: the runs of the kernel and of the reference, and that they leave the same results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_labels_in_range
public import proofs.«01_k».proof.Proof.Gen.Pre_labels_sorted
public import proofs.«01_k».proof.Proof.Printed
public import proofs.«01_k».proof.Proof.Ref
public import proofs.«01_k».proof.Proof.Equal

@[expose] public section

namespace Cert.Proof

theorem claim : Cert.Claim :=
  ⟨Cert.Kernel.Gen.facts, Cert.KernelIdeal.Gen.facts, Cert.ReferenceIdeal.Gen.facts, Cert.Pre_labels_in_range.Gen.facts,
    Cert.Pre_labels_sorted.Gen.facts, Printed.kernel_frame, Printed.ideal_frame, Printed.ideal_frame_sorted,
    Ref.frame, Ref.frame_sorted, trivial, Equal.algebraic⟩

end Cert.Proof

end
